-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1024x1024 : Shape := ⟨2, ![1024, 1024]⟩
abbrev S6 : Shape := ⟨1, ![6]⟩
abbrev S_ : Shape := ⟨0, ![]⟩
abbrev S256x1024 : Shape := ⟨2, ![256, 1024]⟩
abbrev S1 : Shape := ⟨1, ![1]⟩
abbrev S512x1024 : Shape := ⟨2, ![512, 1024]⟩

abbrev nBuf : Space → Nat
  | .hbm => 3
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1024x2048, .f32⟩
  | .local _ .vmem, ⟨0, _⟩ => ⟨S4096x1024, .bf16⟩
  | .local _ .vmem, ⟨1, _⟩ => ⟨S1024x2048, .bf16⟩
  | .local _ .vmem, ⟨2, _⟩ => ⟨S1024x2048, .f32⟩
  | .local _ .vmem, ⟨3, _⟩ => ⟨S1024x1024, .fp8e4m3⟩
  | .local _ .vmem, ⟨4, _⟩ => ⟨S1024x1024, .fp8e4m3⟩
  | .local _ .vmem, ⟨5, _⟩ => ⟨S1024x1024, .fp8e4m3⟩
  | .local _ .vmem, ⟨6, _⟩ => ⟨S1024x1024, .fp8e4m3⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_3 : BitVec 32 := 1#32
  let v8 : BitVec 32 := Scalar.muli v3 c1_i32_3
  let v9 : BitVec 32 := Scalar.addi c0_i32 v8
  v9.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_5 : BitVec 32 := 1#32
  let v10 : BitVec 32 := Scalar.muli v4 c1_i32_5
  let v11 : BitVec 32 := Scalar.addi c0_i32_6 v10
  v11.toNat
def k0_off1 (d0 : Dev nD) (c0_i32_8 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_1 : BitVec 32 := 4#32
  let v6 : BitVec 32 := Scalar.remsi v5 c4_i32_1
  let c1024_i32 : BitVec 32 := 1024#32
  let v12 : BitVec 32 := Scalar.muli v6 c1024_i32
  let v13 : BitVec 32 := Scalar.addi v12 c0_i32_8
  let v14 : Index := Scalar.indexCast v13
  let c0 : Index := 0#32
  ![v14.toNat, 0]
def k0_dev3 (d0 : Dev nD) : Nat :=
  let c0_i32_16 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_15 : BitVec 32 := 1#32
  let v24 : BitVec 32 := Scalar.muli v3 c1_i32_15
  let v25 : BitVec 32 := Scalar.addi c0_i32_16 v24
  v25.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_30 : BitVec 32 := 1#32
  let v44 : BitVec 32 := Scalar.muli v4 c1_i32_30
  let v45 : BitVec 32 := Scalar.addi c0_i32_31 v44
  v45.toNat
def k0_dev5 (d0 : Dev nD) : Nat :=
  let c0_i32_45 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_44 : BitVec 32 := 1#32
  let v64 : BitVec 32 := Scalar.muli v3 c1_i32_44
  let v65 : BitVec 32 := Scalar.addi c0_i32_45 v64
  v65.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_60 : BitVec 32 := 1#32
  let v84 : BitVec 32 := Scalar.muli v4 c1_i32_60
  let v85 : BitVec 32 := Scalar.addi c0_i32_61 v84
  v85.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_1 : BitVec 32 := 4#32
  let v6 : BitVec 32 := Scalar.remsi v5 c4_i32_1
  let c1024_i32_66 : BitVec 32 := 1024#32
  let v92 : BitVec 32 := Scalar.muli v6 c1024_i32_66
  let c512_i32 : BitVec 32 := 512#32
  let v93 : BitVec 32 := Scalar.addi v92 c512_i32
  let v94 : Index := Scalar.indexCast v93
  let c0_67 : Index := 0#32
  ![v94.toNat, 0]
def k0_dev7 (d0 : Dev nD) : Nat :=
  let c0_i32_75 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_74 : BitVec 32 := 1#32
  let v104 : BitVec 32 := Scalar.muli v3 c1_i32_74
  let v105 : BitVec 32 := Scalar.addi c0_i32_75 v104
  v105.toNat
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_90 : BitVec 32 := 1#32
  let v124 : BitVec 32 := Scalar.muli v4 c1_i32_90
  let v125 : BitVec 32 := Scalar.addi c0_i32_91 v124
  v125.toNat
def k0_off3 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1024_i32_96 : BitVec 32 := 1024#32
  let v132 : BitVec 32 := Scalar.muli v3 c1024_i32_96
  let c0_i32_97 : BitVec 32 := 0#32
  let v133 : BitVec 32 := Scalar.addi v132 c0_i32_97
  let v134 : Index := Scalar.indexCast v133
  let c0_98 : Index := 0#32
  ![v134.toNat, 0]
def k0_dev9 (d0 : Dev nD) : Nat :=
  let c0_i32_107 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_106 : BitVec 32 := 1#32
  let v144 : BitVec 32 := Scalar.muli v3 c1_i32_106
  let v145 : BitVec 32 := Scalar.addi c0_i32_107 v144
  v145.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1024_i32_108 : BitVec 32 := 1024#32
  let v150 : BitVec 32 := Scalar.muli v4 c1024_i32_108
  let c0_i32_109 : BitVec 32 := 0#32
  let v151 : BitVec 32 := Scalar.addi v150 c0_i32_109
  let v152 : Index := Scalar.indexCast v151
  let c0_110 : Index := 0#32
  ![v152.toNat, 0]
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_118 : BitVec 32 := 1#32
  let v162 : BitVec 32 := Scalar.muli v4 c1_i32_118
  let v163 : BitVec 32 := Scalar.addi c0_i32_119 v162
  v163.toNat
def k0_dev11 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_177 : BitVec 32 := 1#32
  let v214 : BitVec 32 := Scalar.muli v4 c1_i32_177
  let v215 : BitVec 32 := Scalar.addi c0_i32_178 v214
  v215.toNat
def k0_dev12 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_188 : BitVec 32 := 1#32
  let v230 : BitVec 32 := Scalar.muli v4 c1_i32_188
  let v231 : BitVec 32 := Scalar.addi c0_i32_189 v230
  v231.toNat
def k0_dev13 (d0 : Dev nD) : Nat :=
  let c0_i32_252 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_251 : BitVec 32 := 1#32
  let v284 : BitVec 32 := Scalar.muli v3 c1_i32_251
  let v285 : BitVec 32 := Scalar.addi c0_i32_252 v284
  v285.toNat
def k0_dev14 (d0 : Dev nD) : Nat :=
  let c0_i32_264 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_263 : BitVec 32 := 1#32
  let v300 : BitVec 32 := Scalar.muli v3 c1_i32_263
  let v301 : BitVec 32 := Scalar.addi c0_i32_264 v300
  v301.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_269 : BitVec 32 := 1024#32
  let v308 : BitVec 32 := Scalar.muli v2 c1024_i32_269
  let c0_i32_270 : BitVec 32 := 0#32
  let v309 : BitVec 32 := Scalar.addi v308 c0_i32_270
  let v310 : Index := Scalar.indexCast v309
  let c0_271 : Index := 0#32
  ![v310.toNat, 0]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
/-
The mesh of four devices, the kernel's buffers cut into the row pieces its transfers move, and what each transfer
carries, over any float values `F`.

A device `c` has a partner along each of two LANES: `true` is the partner `3 - c`, `false` the partner `c xor 1`.
Each lane carries six transfers in each direction: three pieces of the diagonal product in 8-bit floats (rows
`[0, 256)`, `[256, 512)`, `[512, 1024)`), one whole product, and two halves of a combined product.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.FourWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's ghost state: its cells are the semaphores, its duties named by a Boolean. -/
abbrev UB : Type := URounds (GSem nD τ sig) Bool
/-- The whole ghost state: the pipeline's and the rounds library's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partners -/

set_option backward.proofsInPublic true in
/-- The partner `3 - c`. -/
def xp (c : Dev nD) : Dev nD := ⟨3 - c.val, by have := c.isLt; show 3 - c.val < 4; omega⟩
set_option backward.proofsInPublic true in
/-- The partner `c xor 1`. -/
def yp (c : Dev nD) : Dev nD := ⟨c.val ^^^ 1, by revert c; decide⟩
/-- The partner along a lane. -/
def peer : Bool → Dev nD → Dev nD
  | true, c => xp c
  | false, c => yp c
/-- The device two places on. -/
def dg (c : Dev nD) : Dev nD := peer true (peer false c)

theorem peer_peer (b : Bool) (c : Dev nD) : peer b (peer b c) = c := by revert b c; decide
theorem peer_comm (b : Bool) (c : Dev nD) : peer b (peer (!b) c) = dg c := by revert b c; decide

/-- Crossing to the partner along a lane, as a bijection of the devices. -/
def across (b : Bool) : Dev nD ≃ Dev nD := ⟨peer b, peer b, peer_peer b, peer_peer b⟩

/-- The fourteen computed device ids: the odd ones and the even ones are the two partners. -/
theorem dev1_eq (c : Dev nD) : (⟨k0_dev1 c, k0_dev1_lt c⟩ : Dev nD) = peer true c := by revert c; decide +kernel
theorem dev2_eq (c : Dev nD) : (⟨k0_dev2 c, k0_dev2_lt c⟩ : Dev nD) = peer false c := by revert c; decide +kernel
theorem dev3_eq (c : Dev nD) : (⟨k0_dev3 c, k0_dev3_lt c⟩ : Dev nD) = peer true c := by revert c; decide +kernel
theorem dev4_eq (c : Dev nD) : (⟨k0_dev4 c, k0_dev4_lt c⟩ : Dev nD) = peer false c := by revert c; decide +kernel
theorem dev5_eq (c : Dev nD) : (⟨k0_dev5 c, k0_dev5_lt c⟩ : Dev nD) = peer true c := by revert c; decide +kernel
theorem dev6_eq (c : Dev nD) : (⟨k0_dev6 c, k0_dev6_lt c⟩ : Dev nD) = peer false c := by revert c; decide +kernel
theorem dev7_eq (c : Dev nD) : (⟨k0_dev7 c, k0_dev7_lt c⟩ : Dev nD) = peer true c := by revert c; decide +kernel
theorem dev8_eq (c : Dev nD) : (⟨k0_dev8 c, k0_dev8_lt c⟩ : Dev nD) = peer false c := by revert c; decide +kernel
theorem dev9_eq (c : Dev nD) : (⟨k0_dev9 c, k0_dev9_lt c⟩ : Dev nD) = peer true c := by revert c; decide +kernel
theorem dev10_eq (c : Dev nD) : (⟨k0_dev10 c, k0_dev10_lt c⟩ : Dev nD) = peer false c := by revert c; decide +kernel
theorem dev11_eq (c : Dev nD) : (⟨k0_dev11 c, k0_dev11_lt c⟩ : Dev nD) = peer false c := by revert c; decide +kernel
theorem dev12_eq (c : Dev nD) : (⟨k0_dev12 c, k0_dev12_lt c⟩ : Dev nD) = peer false c := by revert c; decide +kernel
theorem dev13_eq (c : Dev nD) : (⟨k0_dev13 c, k0_dev13_lt c⟩ : Dev nD) = peer true c := by revert c; decide +kernel
theorem dev14_eq (c : Dev nD) : (⟨k0_dev14 c, k0_dev14_lt c⟩ : Dev nD) = peer true c := by revert c; decide +kernel

/-! ## The buffers -/

/-- The windows' buffers: `x`, `w`, the result. -/
abbrev xM : Memref sig .tc .vmem S4096x1024 .bf16 := Memref.whole cc0_stg0_0
abbrev wM : Memref sig .tc .vmem S1024x2048 .bf16 := Memref.whole cc0_stg1_0
abbrev oM : Memref sig .tc .vmem S1024x2048 .f32 := Memref.whole cc0_stg2_0

/-- A lane's buffers: the diagonal product's, sent and landing; the whole product's; the combined product's. -/
abbrev dS : Bool → Memref sig .tc .vmem S1024x1024 .fp8e4m3
  | true => Memref.whole cc0_scratch0
  | false => Memref.whole cc0_scratch2
abbrev dR : Bool → Memref sig .tc .vmem S1024x1024 .fp8e4m3
  | true => Memref.whole cc0_scratch1
  | false => Memref.whole cc0_scratch3
abbrev fS : Bool → Memref sig .tc .vmem S1024x1024 .bf16
  | true => Memref.whole cc0_scratch4
  | false => Memref.whole cc0_scratch6
abbrev fR : Bool → Memref sig .tc .vmem S1024x1024 .bf16
  | true => Memref.whole cc0_scratch5
  | false => Memref.whole cc0_scratch7
abbrev gS : Bool → Memref sig .tc .vmem S1024x1024 .bf16
  | true => Memref.whole cc0_scratch8
  | false => Memref.whole cc0_scratch10
abbrev gR : Bool → Memref sig .tc .vmem S1024x1024 .bf16
  | true => Memref.whole cc0_scratch9
  | false => Memref.whole cc0_scratch11

variable {e : EltTy}

/-- The row pieces: rows `[0, 256)`, `[256, 512)`, and the two halves. -/
abbrev rq0 : Rect S1024x1024 := Rect.unit (s := S1024x1024) ![0, 0] S256x1024.size inb_S1024x1024_S256x1024_0_0
abbrev rq1 : Rect S1024x1024 := Rect.unit (s := S1024x1024) ![256, 0] S256x1024.size inb_S1024x1024_S256x1024_256_0
abbrev rh0 : Rect S1024x1024 := Rect.unit (s := S1024x1024) ![0, 0] S512x1024.size inb_S1024x1024_S512x1024_0_0
abbrev rh1 : Rect S1024x1024 := Rect.unit (s := S1024x1024) ![512, 0] S512x1024.size inb_S1024x1024_S512x1024_512_0

abbrev q0 (M : Memref sig .tc .vmem S1024x1024 e) : Memref sig .tc .vmem S256x1024 e := M.slice rq0 (fun _ => rfl)
abbrev q1 (M : Memref sig .tc .vmem S1024x1024 e) : Memref sig .tc .vmem S256x1024 e := M.slice rq1 (fun _ => rfl)
abbrev h0 (M : Memref sig .tc .vmem S1024x1024 e) : Memref sig .tc .vmem S512x1024 e := M.slice rh0 (fun _ => rfl)
abbrev h1 (M : Memref sig .tc .vmem S1024x1024 e) : Memref sig .tc .vmem S512x1024 e := M.slice rh1 (fun _ => rfl)

/-! ## The semaphores -/

/-- The barrier, and the semaphores of transfer `i` of lane `b`: the sender's own, and the one at the receiver. -/
abbrev barS : Sem sig := (SemArray.scalar (sig.barrier 0 rfl) : Sems sig S_).sem

set_option backward.proofsInPublic true in
abbrev sS (b : Bool) (i : Fin 6) : DmaSem sig := ⟨(if b then 3 else 15) + i.val, by revert b i; decide⟩
set_option backward.proofsInPublic true in
abbrev sR (b : Bool) (i : Fin 6) : DmaSem sig := ⟨(if b then 9 else 21) + i.val, by revert b i; decide⟩

abbrev barCell (c : Dev nD) : GSem nD τ sig := ((c : Thread nD τ), .reg barS)
abbrev sCell (c : Dev nD) (b : Bool) (i : Fin 6) : GSem nD τ sig := ((c : Thread nD τ), .dma (sS b i))
abbrev rCell (c : Dev nD) (b : Bool) (i : Fin 6) : GSem nD τ sig := ((c : Thread nD τ), .dma (sR b i))

/-- The element `i` of one of the kernel's semaphore arrays, as the kernel spells it. -/
abbrev at0 (A : DmaSems sig S6) : DmaSem sig := ((A.slice (Rect.unit (s := S6) ![0] ![1] inb_S6_S1_0)).squeeze S_ squeezes_S1_S_).sem
abbrev at1 (A : DmaSems sig S6) : DmaSem sig := ((A.slice (Rect.unit (s := S6) ![1] ![1] inb_S6_S1_1)).squeeze S_ squeezes_S1_S_).sem
abbrev at2 (A : DmaSems sig S6) : DmaSem sig := ((A.slice (Rect.unit (s := S6) ![2] ![1] inb_S6_S1_2)).squeeze S_ squeezes_S1_S_).sem
abbrev at3 (A : DmaSems sig S6) : DmaSem sig := ((A.slice (Rect.unit (s := S6) ![3] ![1] inb_S6_S1_3)).squeeze S_ squeezes_S1_S_).sem
abbrev at4 (A : DmaSems sig S6) : DmaSem sig := ((A.slice (Rect.unit (s := S6) ![4] ![1] inb_S6_S1_4)).squeeze S_ squeezes_S1_S_).sem
abbrev at5 (A : DmaSems sig S6) : DmaSem sig := ((A.slice (Rect.unit (s := S6) ![5] ![1] inb_S6_S1_5)).squeeze S_ squeezes_S1_S_).sem

theorem ssx0 : at0 cc0_scratch12 = sS true 0 := rfl
theorem ssx1 : at1 cc0_scratch12 = sS true 1 := rfl
theorem ssx2 : at2 cc0_scratch12 = sS true 2 := rfl
theorem ssx3 : at3 cc0_scratch12 = sS true 3 := rfl
theorem ssx4 : at4 cc0_scratch12 = sS true 4 := rfl
theorem ssx5 : at5 cc0_scratch12 = sS true 5 := rfl
theorem rsx0 : at0 cc0_scratch13 = sR true 0 := rfl
theorem rsx1 : at1 cc0_scratch13 = sR true 1 := rfl
theorem rsx2 : at2 cc0_scratch13 = sR true 2 := rfl
theorem rsx3 : at3 cc0_scratch13 = sR true 3 := rfl
theorem rsx4 : at4 cc0_scratch13 = sR true 4 := rfl
theorem rsx5 : at5 cc0_scratch13 = sR true 5 := rfl
theorem ssy0 : at0 cc0_scratch14 = sS false 0 := rfl
theorem ssy1 : at1 cc0_scratch14 = sS false 1 := rfl
theorem ssy2 : at2 cc0_scratch14 = sS false 2 := rfl
theorem ssy3 : at3 cc0_scratch14 = sS false 3 := rfl
theorem ssy4 : at4 cc0_scratch14 = sS false 4 := rfl
theorem ssy5 : at5 cc0_scratch14 = sS false 5 := rfl
theorem rsy0 : at0 cc0_scratch15 = sR false 0 := rfl
theorem rsy1 : at1 cc0_scratch15 = sR false 1 := rfl
theorem rsy2 : at2 cc0_scratch15 = sR false 2 := rfl
theorem rsy3 : at3 cc0_scratch15 = sR false 3 := rfl
theorem rsy4 : at4 cc0_scratch15 = sR false 4 := rfl
theorem rsy5 : at5 cc0_scratch15 = sR false 5 := rfl

/-! ## What each transfer carries

`X c` and `W c` are device `c`'s blocks of the two arguments, whole in their windows. -/

variable (X : Dev nD → (cc0_stg0_0 : Ref sig .tc).ty.Contents (Elt F)) (W : Dev nD → (cc0_stg1_0 : Ref sig .tc).ty.Contents (Elt F))

/-- The column half of `w` a lane multiplies by: the left half for `true`, the right one for `false`. -/
abbrev rw0 : Rect S1024x2048 := Rect.unit (s := S1024x2048) ![0, 0] S1024x1024.size inb_S1024x2048_S1024x1024_0_0
abbrev rw1 : Rect S1024x2048 := Rect.unit (s := S1024x2048) ![0, 1024] S1024x1024.size inb_S1024x2048_S1024x1024_0_1024
def wH (c : Dev nD) : Bool → FVec F S1024x1024 .bf16
  | true => wM.view.readAt (Elt F) rw0.toLoadRect (W c)
  | false => wM.view.readAt (Elt F) rw1.toLoadRect (W c)

/-- The rows of `x` the kernel reads: pieces of the block of the device two places on, its partners' blocks, its own. -/
abbrev rx (c : Dev nD) (k : BitVec 32) (h : ∀ a, k0_off1 c k a + S256x1024.size a ≤ S4096x1024.size a) : Rect S4096x1024 :=
  Rect.unit (s := S4096x1024) (k0_off1 c k) S256x1024.size h
def xD0 (c : Dev nD) : FVec F S256x1024 .bf16 :=
  xM.view.readAt (Elt F) (Rect.unit (s := S4096x1024) (k0_off1 c 0#32) S256x1024.size (k0_off1_inb c 0)).toLoadRect (X c)
def xD1 (c : Dev nD) : FVec F S256x1024 .bf16 :=
  xM.view.readAt (Elt F) (Rect.unit (s := S4096x1024) (k0_off1 c 256#32) S256x1024.size (k0_off1_inb c 1)).toLoadRect (X c)
def xD2 (c : Dev nD) : FVec F S512x1024 .bf16 :=
  xM.view.readAt (Elt F) (Rect.unit (s := S4096x1024) (k0_off2 c) S512x1024.size (k0_off2_inb c)).toLoadRect (X c)
def xP (c : Dev nD) : Bool → FVec F S1024x1024 .bf16
  | true => xM.view.readAt (Elt F) (Rect.unit (s := S4096x1024) (k0_off3 c) S1024x1024.size (k0_off3_inb c)).toLoadRect (X c)
  | false => xM.view.readAt (Elt F) (Rect.unit (s := S4096x1024) (k0_off4 c) S1024x1024.size (k0_off4_inb c)).toLoadRect (X c)
def xO (c : Dev nD) : FVec F S1024x1024 .bf16 :=
  xM.view.readAt (Elt F) (Rect.unit (s := S4096x1024) (k0_off5 c) S1024x1024.size (k0_off5_inb c)).toLoadRect (X c)

/-- The three pieces of the diagonal product device `c` sends along lane `b`. -/
def vD0 (b : Bool) (c : Dev nD) : FVec F S256x1024 .fp8e4m3 := k0_pay2 (xD0 X c) (wH W c b)
def vD1 (b : Bool) (c : Dev nD) : FVec F S256x1024 .fp8e4m3 := k0_pay2 (xD1 X c) (wH W c b)
def vD2 (b : Bool) (c : Dev nD) : FVec F S512x1024 .fp8e4m3 := k0_pay7 (xD2 X c) (wH W c b)
/-- The whole product it sends along lane `b`. -/
def vF (b : Bool) (c : Dev nD) : FVec F S1024x1024 .bf16 := k0_pay9 (xP X c b) (wH W c b)

instance eltNonempty : ∀ e : EltTy, Nonempty (Elt F e) := inferInstance

/-- Contents of a buffer holding `w` in the view. -/
def fill {s : Shape} (M : Memref sig .tc .vmem s e) (w : s.Idx → Elt F e) : M.view.ty.Contents (Elt F) :=
  M.view.write (Elt F) M.view.junk w Finset.univ

/-- A lane's landing buffer on `c` once all three pieces of its partner's diagonal product are in. -/
def landD (b : Bool) (c : Dev nD) : (dR b).view.ty.Contents (Elt F) :=
  (h1 (dR b)).view.write (Elt F) ((q1 (dR b)).view.write (Elt F) (fill (q0 (dR b)) (vD0 X W b (peer b c))) (vD1 X W b (peer b c)) Finset.univ)
    (vD2 X W b (peer b c)) Finset.univ

/-- The two halves of the combined product it sends along lane `b`: the partner's block times the OTHER column half,
    with what the other lane's diagonal transfers brought added. -/
def vG0 (b : Bool) (c : Dev nD) : FVec F S512x1024 .bf16 :=
  k0_pay17 (k0_pay12 (xP X c b) (wH W c (!b))) ((dR (!b)).view.readAt (Elt F) rh0.toLoadRect (landD X W (!b) c))
def vG1 (b : Bool) (c : Dev nD) : FVec F S512x1024 .bf16 :=
  k0_pay18 (k0_pay12 (xP X c b) (wH W c (!b))) ((dR (!b)).view.readAt (Elt F) rh1.toLoadRect (landD X W (!b) c))

/-! The printed payloads that are the same function: a lane's text repeats the other's. -/

theorem pay3_eq : k0_pay3 (F := F) = k0_pay2 := rfl
theorem pay54_eq (x : Vec F S256x1024 .bf16) (w : Vec F S1024x1024 .bf16) : k0_pay5 (k0_pay4 x w) = k0_pay2 x w := rfl
theorem pay6_eq : k0_pay6 (F := F) = k0_pay2 := rfl
theorem pay8_eq : k0_pay8 (F := F) = k0_pay7 := rfl
theorem pay11_eq (x w : Vec F S1024x1024 .bf16) : k0_pay11 (k0_pay10 x) w = k0_pay9 x w := rfl
theorem pay16_eq : k0_pay16 (F := F) = k0_pay12 := rfl
theorem pay19_eq : k0_pay19 (F := F) = k0_pay12 := rfl
theorem pay20_eq : k0_pay20 (F := F) = k0_pay12 := rfl
theorem pay14_eq (v : FVec F S1024x1024 .f32) (r : Vec F S512x1024 .fp8e4m3) : k0_pay14 (k0_pay13 v) r = k0_pay17 v r := rfl
theorem pay15_eq : k0_pay15 (F := F) = k0_pay18 := rfl
theorem pay22_eq : k0_pay22 (F := F) = k0_pay21 := rfl
theorem pay25_eq (v : Vec F S512x1024 .f32) (r : Vec F S512x1024 .bf16) : k0_pay25 (k0_pay24 v) r = k0_pay23 v r := rfl
theorem pay26_eq : k0_pay26 (F := F) = k0_pay23 := rfl
theorem pay1_eq : k0_pay1 (F := F) = k0_pay23 := rfl

/-! ## The result -/

/-- The kernel's result on `c`: its own product in each column half with the whole product its partner sent added,
    then, half by half, the combined products. -/
abbrev ro00 : Rect S1024x2048 := Rect.unit (s := S1024x2048) ![0, 0] S512x1024.size inb_S1024x2048_S512x1024_0_0
abbrev ro01 : Rect S1024x2048 := Rect.unit (s := S1024x2048) ![0, 1024] S512x1024.size inb_S1024x2048_S512x1024_0_1024
abbrev ro10 : Rect S1024x2048 := Rect.unit (s := S1024x2048) ![512, 0] S512x1024.size inb_S1024x2048_S512x1024_512_0
abbrev ro11 : Rect S1024x2048 := Rect.unit (s := S1024x2048) ![512, 1024] S512x1024.size inb_S1024x2048_S512x1024_512_1024

abbrev OC (F : FTy → Type) : Type := (cc0_stg2_0 : Ref sig .tc).ty.Contents (Elt F)

def out0 (c : Dev nD) (f : OC F) : OC F :=
  (oM.access rw1).write (Elt F)
    ((oM.access rw0).write (Elt F) f (k0_pay21 (k0_pay12 (xO X c) (wH W c true)) (vF X W true (peer true c))) Finset.univ)
    (k0_pay21 (k0_pay12 (xO X c) (wH W c false)) (vF X W false (peer false c))) Finset.univ

/-- One later addition into the rectangle of the result at `off`. -/
def addInto (off : Fin 2 → Nat) (h : ∀ a, off a + S512x1024.size a ≤ S1024x2048.size a) (f : OC F) (v : FVec F S512x1024 .bf16) : OC F :=
  (oM.access (Rect.unit (s := S1024x2048) off S512x1024.size h)).write (Elt F) f
    (k0_pay23 (oM.view.readAt (Elt F) (Rect.unit (s := S1024x2048) off S512x1024.size h).toLoadRect f) v) Finset.univ

def out1 (c : Dev nD) (f : OC F) : OC F := addInto ![0, 0] inb_S1024x2048_S512x1024_0_0 f (vG0 X W false (peer false c))
def out2 (c : Dev nD) (f : OC F) : OC F := addInto ![0, 1024] inb_S1024x2048_S512x1024_0_1024 f (vG0 X W true (peer true c))
def out3 (c : Dev nD) (f : OC F) : OC F := addInto ![512, 0] inb_S1024x2048_S512x1024_512_0 f (vG1 X W false (peer false c))
def out4 (c : Dev nD) (f : OC F) : OC F := addInto ![512, 1024] inb_S1024x2048_S512x1024_512_1024 f (vG1 X W true (peer true c))

/-- The result: every element of the buffer is written, so what it held before is not in it. -/
def outAt (c : Dev nD) : OC F := out4 X W c (out3 X W c (out2 X W c (out1 X W c (out0 X W c oM.view.junk))))

end Cert.FourWay

end
-- ==== Proof.Sched.lean ====
/-
The protocol: what each semaphore's units carry, what each device owes its partners at the start, and the order in
which the waits may be served.

Every semaphore serves one round. The barrier has two duties, one per lane: the lane's partner pays its own landing
buffers of that lane. A transfer pays the sender's own semaphore (the sent piece back) and the receiver's (the landed
piece with what was sent in it).
-/
module

public import proofs.«01_k».proof.Proof.Mesh

@[expose] public section

noncomputable section

namespace Cert.FourWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Owning a piece -/

/-- Device `c` owns the view's elements, at some contents. -/
def some' {s : Shape} {e : EltTy} (c : Dev nD) (M : Memref sig .tc .vmem s e) : sProp 𝕄 :=
  iprop(∃ f : Buf (Elt F) (M.view.loc (c : Thread nD τ)), M.view.loc (c : Thread nD τ) ↦[M.view.set]{fullShare} f)
/-- Device `c` owns the view's elements, holding `w`. -/
def held {s : Shape} {e : EltTy} (c : Dev nD) (M : Memref sig .tc .vmem s e) (w : s.Idx → Elt F e) : sProp 𝕄 :=
  M.view.loc (c : Thread nD τ) ↦[M.view.set]{fullShare} fill M w

instance some'_storable {s : Shape} {e : EltTy} (c : Dev nD) (M : Memref sig .tc .vmem s e) :
    BI.Storable (upEmb : UEmb _ 𝕄) (some' (F := F) c M) := by unfold some'; infer_instance
instance held_storable {s : Shape} {e : EltTy} (c : Dev nD) (M : Memref sig .tc .vmem s e) (w : s.Idx → Elt F e) :
    BI.Storable (upEmb : UEmb _ 𝕄) (held (F := F) c M w) := by unfold held; infer_instance

/-- Writing `w` over the whole view leaves `w` in it whatever was there. -/
theorem held_intro {s : Shape} {e : EltTy} (c : Dev nD) (M : Memref sig .tc .vmem s e) (w : s.Idx → Elt F e)
    (f : Buf (Elt F) (M.view.loc (c : Thread nD τ))) :
    (M.view.loc (c : Thread nD τ) ↦[M.view.set]{fullShare} M.view.write (Elt F) f w Finset.univ : sProp 𝕄) = held c M w := by
  unfold held fill
  refine pointsTo_congr fun i hi => ?_
  obtain ⟨x, -, rfl⟩ := Finset.mem_map.mp hi
  rw [View.write_emb_of_mem _ _ (Finset.mem_univ x), View.write_emb_of_mem _ _ (Finset.mem_univ x)]

theorem held_some {s : Shape} {e : EltTy} (c : Dev nD) (M : Memref sig .tc .vmem s e) (w : s.Idx → Elt F e) :
    (held c M w : sProp 𝕄) ⊢ some' c M := by
  unfold held some'; iintro H; iexists _; iexact H

/-! ## What the units carry -/

variable (X : Dev nD → (cc0_stg0_0 : Ref sig .tc).ty.Contents (Elt F)) (W : Dev nD → (cc0_stg1_0 : Ref sig .tc).ty.Contents (Elt F))

/-- Transfer `i` of lane `b`, at the sender: the piece sent. -/
def paySend (c : Dev nD) (b : Bool) : Fin 6 → sProp 𝕄
  | 0 => held c (q0 (dS b)) (vD0 X W b c)
  | 1 => held c (q1 (dS b)) (vD1 X W b c)
  | 2 => held c (h1 (dS b)) (vD2 X W b c)
  | 3 => held c (fS b) (vF X W b c)
  | 4 => held c (h0 (gS b)) (vG0 X W b c)
  | 5 => held c (h1 (gS b)) (vG1 X W b c)
/-- Transfer `i` of lane `b`, at the receiver: the piece landed, from the lane's partner. -/
def payRecv (c : Dev nD) (b : Bool) : Fin 6 → sProp 𝕄
  | 0 => held c (q0 (dR b)) (vD0 X W b (peer b c))
  | 1 => held c (q1 (dR b)) (vD1 X W b (peer b c))
  | 2 => held c (h1 (dR b)) (vD2 X W b (peer b c))
  | 3 => held c (fR b) (vF X W b (peer b c))
  | 4 => held c (h0 (gR b)) (vG0 X W b (peer b c))
  | 5 => held c (h1 (gR b)) (vG1 X W b (peer b c))

/-- The units a transfer moves. -/
def amt (b : Bool) : Fin 6 → ℕ
  | 0 => (q0 (dR b)).view.dmaCredit
  | 1 => (q1 (dR b)).view.dmaCredit
  | 2 => (h1 (dR b)).view.dmaCredit
  | 3 => (fR b).view.dmaCredit
  | 4 => (h0 (gR b)).view.dmaCredit
  | 5 => (h1 (gR b)).view.dmaCredit

theorem amt_pos (b : Bool) (i : Fin 6) : 0 < amt b i := by
  fin_cases i <;> exact View.dmaCredit_pos _ (by decide)

/-- The landing buffers of lane `b` on `c`, in the pieces that the transfers fill. -/
def landing (b : Bool) (c : Dev nD) : sProp 𝕄 :=
  iprop(some' c (q0 (dR b)) ∗ some' c (q1 (dR b)) ∗ some' c (h1 (dR b)) ∗ some' c (fR b) ∗ some' c (h0 (gR b)) ∗ some' c (h1 (gR b)))

/-- Which transfer a DMA semaphore serves: at its receiver or not, the lane, the number. -/
def decode (q : DmaSem sig) : Option (Bool × Bool × Fin 6) :=
  if 3 ≤ q.val then
    some (decide (6 ≤ (q.val - 3) % 12), decide (q.val < 15), ⟨(q.val - 3) % 6, Nat.mod_lt _ (by decide)⟩)
  else none

theorem decode_sS (b : Bool) (i : Fin 6) : decode (sS b i) = some (false, b, i) := by revert b i; decide
theorem decode_sR (b : Bool) (i : Fin 6) : decode (sR b i) = some (true, b, i) := by revert b i; decide

def payOf (c : Dev nD) : Option (Bool × Bool × Fin 6) → sProp 𝕄
  | some (false, b, i) => paySend X W c b i
  | some (true, b, i) => payRecv X W c b i
  | none => iprop(emp)
def amtOf : Option (Bool × Bool × Fin 6) → ℕ
  | some (_, b, i) => amt b i
  | none => 1

/-- The schedule. -/
def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => amtOf (decode q)
  payload g _ d := match g.2 with | .reg _ => landing d (peer d g.1.1) | .dma q => payOf X W g.1.1 (decode q)
  amount_pos g _ _ _ := by
    rcases g with ⟨t, s | q⟩
    · exact Nat.one_pos
    · show 0 < amtOf (decode q)
      rcases decode q with _ | ⟨_, b, i⟩
      · exact Nat.one_pos
      · exact amt_pos b i

instance landing_storable (b : Bool) (c : Dev nD) : BI.Storable (upEmb : UEmb _ 𝕄) (landing (F := F) b c) := by
  unfold landing; infer_instance
instance paySend_storable (c : Dev nD) (b : Bool) (i : Fin 6) : BI.Storable (upEmb : UEmb _ 𝕄) (paySend X W c b i) := by
  fin_cases i <;> exact held_storable _ _ _
instance payRecv_storable (c : Dev nD) (b : Bool) (i : Fin 6) : BI.Storable (upEmb : UEmb _ 𝕄) (payRecv X W c b i) := by
  fin_cases i <;> exact held_storable _ _ _
instance payOf_storable (c : Dev nD) (o : Option (Bool × Bool × Fin 6)) : BI.Storable (upEmb : UEmb _ 𝕄) (payOf X W c o) := by
  rcases o with _ | ⟨_ | _, b, i⟩ <;> unfold payOf <;> infer_instance
instance Rd_storable (g : GSem nD τ sig) (r : ℕ) (d : Bool) : BI.Storable (upEmb : UEmb _ 𝕄) ((Rd X W).payload g r d) := by
  rcases g with ⟨t, s | q⟩
  · exact landing_storable _ _
  · exact payOf_storable X W _ _

section Sched
variable (c : Dev nD) (b : Bool) (i : Fin 6)

theorem duties_bar : (Rd X W).duties (barCell c) 0 = Finset.univ := by dsimp only [Rd]; exact if_pos ⟨rfl, rfl⟩
theorem duties_dma (q : DmaSem sig) : (Rd X W).duties ((c : Thread nD τ), .dma q) 0 = {false} := by dsimp only [Rd]; exact if_pos ⟨rfl, rfl⟩
theorem duties_later (g : GSem nD τ sig) : ∀ r, 1 ≤ r → (Rd X W).duties g r = ∅ :=
  fun r hr => if_neg fun h => by omega

theorem amount_bar (d : Bool) : (Rd X W).amount (barCell c) 0 d = 1 := rfl
theorem amount_s (d : Bool) : (Rd X W).amount (sCell c b i) 0 d = amt b i := congrArg amtOf (decode_sS b i)
theorem amount_r (d : Bool) : (Rd X W).amount (rCell c b i) 0 d = amt b i := congrArg amtOf (decode_sR b i)

theorem expect_bar : (Rd X W).expect (barCell c) 0 = 2 := by
  unfold Schedule.expect Schedule.amountOf
  rw [duties_bar, Finset.sum_congr rfl fun d _ => amount_bar X W c d, Finset.sum_const, Finset.card_univ, Fintype.card_bool, smul_eq_mul]
theorem expect_s : (Rd X W).expect (sCell c b i) 0 = amt b i := by
  unfold Schedule.expect Schedule.amountOf; rw [duties_dma, Finset.sum_singleton, amount_s]
theorem expect_r : (Rd X W).expect (rCell c b i) 0 = amt b i := by
  unfold Schedule.expect Schedule.amountOf; rw [duties_dma, Finset.sum_singleton, amount_r]

theorem payload_bar (d : Bool) : (Rd X W).payload (barCell c) 0 d = landing d (peer d c) := rfl
theorem payload_s (d : Bool) : (Rd X W).payload (sCell c b i) 0 d = paySend X W c b i := congrArg (payOf X W c) (decode_sS b i)
theorem payload_r (d : Bool) : (Rd X W).payload (rCell c b i) 0 d = payRecv X W c b i := congrArg (payOf X W c) (decode_sR b i)

theorem rest_bar : bigSep ((Rd X W).duties (barCell c) 0 \ ∅) (fun d => (Rd X W).payload (barCell c) 0 d)
    = iprop(landing (F := F) true (peer true c) ∗ landing false (peer false c)) := by
  rw [Finset.sdiff_empty, duties_bar, bigSep_univ_eq_bigSepL [true, false] (by decide) (by decide), bigSepL_cons_cons, bigSepL_singleton,
    payload_bar, payload_bar]
  rfl
theorem rest_s : bigSep ((Rd X W).duties (sCell c b i) 0 \ ∅) (fun d => (Rd X W).payload (sCell c b i) 0 d) = paySend X W c b i := by
  rw [Finset.sdiff_empty, duties_dma, bigSep_singleton, payload_s]
theorem rest_r : bigSep ((Rd X W).duties (rCell c b i) 0 \ ∅) (fun d => (Rd X W).payload (rCell c b i) 0 d) = payRecv X W c b i := by
  rw [Finset.sdiff_empty, duties_dma, bigSep_singleton, payload_r]

end Sched

/-! ## What a device owes, and the levels -/

/-- One unit of what a device owes: along a lane, on the partner's semaphore, an amount. -/
abbrev Due : Type := Bool × SemLoc sig × ℕ

/-- A transfer's due: the partner's receive semaphore. -/
abbrev due (b : Bool) (i : Fin 6) : Due := (b, .dma (sR b i), amt b i)

/-- The transfers in program order. -/
def sends : List (Bool × Fin 6) :=
  [(true, 0), (false, 0), (true, 1), (false, 1), (true, 2), (false, 2), (true, 3), (false, 3), (false, 4), (false, 5), (true, 4), (true, 5)]
/-- What a device owes for the transfers `l`. -/
abbrev sendDues (l : List (Bool × Fin 6)) : List Due := l.map fun x => due x.1 x.2
/-- What a device owes at the start: its two signals and its twelve transfers. -/
def dues : List Due := (true, .reg barS, 1) :: (false, .reg barS, 1) :: sendDues sends

/-- A list of dues as a tally over the cells. -/
def owedL (c : Dev nD) : List Due → CellTallies nD τ sig Unit
  | [] => 0
  | d :: l => owedL c l + tallyAt (((peer d.1 c : Dev nD) : Thread nD τ), d.2.1) () d.2.2

theorem owedL_pos {c : Dev nD} {l : List Due} {g : GSem nD τ sig} {u : Unit} (h : 0 < owedL c l g u) :
    ∃ d ∈ l, g = (((peer d.1 c : Dev nD) : Thread nD τ), d.2.1) := by
  induction l with
  | nil => exact absurd h (Nat.lt_irrefl 0)
  | cons d l ih =>
    unfold owedL at h
    rw [Pi.add_apply, Finsupp.add_apply, tallyAt_apply] at h
    by_cases hg : g = (((peer d.1 c : Dev nD) : Thread nD τ), d.2.1)
    · exact ⟨d, List.mem_cons_self, hg⟩
    · rw [if_neg fun h' => hg h'.1, Nat.add_zero] at h
      obtain ⟨d', hd', hg'⟩ := ih h
      exact ⟨d', List.mem_cons_of_mem _ hd', hg'⟩

/-- The level of a semaphore: a wait is served while only higher ones are owed. -/
def lvOf : Option (Bool × Bool × Fin 6) → ℕ
  | some (true, _, i) => if i.val ≤ 3 then 2 else 3
  | _ => 0
def lvS : SemLoc sig → ℕ
  | .reg _ => 1
  | .dma q => lvOf (decode q)

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A wait below everything still owed may be served. -/
theorem mayWait (c : Dev nD) (sm : SemLoc sig) (l : List Due) (h : ∀ d ∈ l, lvS sm < lvS d.2.1) :
    (levAts L lv : sProp 𝕄) ⊢ MayWait (c : Thread nD τ) sm () (owedL c l) := by
  refine MayOwe.of_cut (L := L) (lev := lv) (lvS sm) (fun p hp => by rw [Finset.mem_singleton.mp hp, L_tc]; exact Finset.mem_singleton_self _)
    (fun g u hg => ?_) (fun p hp => by rw [Finset.mem_singleton.mp hp]; exact le_refl _) (fun g u hg => ?_)
  · obtain ⟨d, -, rfl⟩ := owedL_pos hg; exact Finset.mem_singleton_self _
  · obtain ⟨d, hd, rfl⟩ := owedL_pos hg; exact h d hd

/-! ## The cells and a transfer's stages -/

/-- The names of a device's cells: the barrier; transfer `(b, i)` at its sender (`false`) and at its receiver. -/
abbrev Cx : Type := Unit ⊕ (Bool × Bool × Fin 6)
def csem : Cx → SemLoc sig
  | .inl _ => .reg barS
  | .inr (false, b, i) => .dma (sS b i)
  | .inr (true, b, i) => .dma (sR b i)
abbrev kcell (ck : Dev nD × Cx) : GSem nD τ sig := ((ck.1 : Thread nD τ), csem ck.2)

theorem csem_injective : Function.Injective csem := by decide
theorem kcell_injective : Function.Injective kcell := by
  rintro ⟨c, k⟩ ⟨c', k'⟩ h
  rw [Prod.mk.injEq] at h
  have h1 : c = c' := congrArg Prod.fst h.1
  have h2 : k = k' := csem_injective h.2
  rw [h1, h2]

/-- Every cell's invariant, at some names, and that it is at round 0: known to every device. -/
def records (K : Dev nD × Cx → ℕ) : sProp 𝕄 :=
  bigSep Finset.univ fun ck => iprop(cellInv ER (Rd X W) (K ck) (kcell ck) ∗ reached ER (kcell ck) 0)

instance records_persistent (K : Dev nD × Cx → ℕ) : BI.Persistent (records X W K) := by unfold records; infer_instance

theorem records_at (K : Dev nD × Cx → ℕ) (ck : Dev nD × Cx) :
    records X W K ⊢ iprop(cellInv ER (Rd X W) (K ck) (kcell ck) ∗ reached ER (kcell ck) 0) :=
  bigSep_elim (Finset.mem_univ ck)

/-- A transfer's stages on `c`, as sender and as receiver of its partner's: not started; sent; sent and the piece
    back; its partner's arrived too. -/
def St0 (c : Dev nD) (b : Bool) (i : Fin 6) : sProp 𝕄 :=
  iprop((dutyTok ER (sCell c b i) 0 false ∗ dutyTok ER (rCell (peer b c) b i) 0 false)
    ∗ atPos ER (sCell c b i) 0 ∅ 0 ∗ atPos ER (rCell c b i) 0 ∅ 0 ∗ cred (tallyAt (rCell c b i) () (amt b i)))
def St1 (c : Dev nD) (b : Bool) (i : Fin 6) : sProp 𝕄 :=
  iprop(cred (tallyAt (sCell c b i) () (amt b i)) ∗ atPos ER (sCell c b i) 0 ∅ 0 ∗ atPos ER (rCell c b i) 0 ∅ 0
    ∗ cred (tallyAt (rCell c b i) () (amt b i)))
def St2 (c : Dev nD) (b : Bool) (i : Fin 6) : sProp 𝕄 :=
  iprop(semVal (sCell c b i) 0 ∗ atPos ER (rCell c b i) 0 ∅ 0 ∗ cred (tallyAt (rCell c b i) () (amt b i)))
def St3 (c : Dev nD) (b : Bool) (i : Fin 6) : sProp 𝕄 :=
  iprop(semVal (sCell c b i) 0 ∗ semVal (rCell c b i) 0)

end Cert.FourWay

end
-- ==== Proof.Steps.lean ====
/-
One rule per kind of step the kernel takes: cutting a buffer into row pieces and joining it again, a load, a store, a
signal, the barrier's wait, a transfer, and the two waits of a transfer.
-/
module

public import proofs.«01_k».proof.Proof.Sched

@[expose] public section

noncomputable section

namespace Cert.FourWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The row pieces -/

theorem mem_rq0 (i : S1024x1024.Idx) : i ∈ rq0.set ↔ (i 0).val < 256 := by
  rw [Rect.mem_set_unit, Fin.forall_fin_two]
  have h1 := (i 1).isLt
  constructor
  · rintro ⟨h, -⟩; simpa [S256x1024] using h.2
  · intro h; exact ⟨⟨Nat.zero_le _, by simpa [S256x1024] using h⟩, Nat.zero_le _, by simpa [S256x1024] using h1⟩
theorem mem_rq1 (i : S1024x1024.Idx) : i ∈ rq1.set ↔ 256 ≤ (i 0).val ∧ (i 0).val < 512 := by
  rw [Rect.mem_set_unit, Fin.forall_fin_two]
  have h1 := (i 1).isLt
  constructor
  · rintro ⟨h, -⟩; simpa [S256x1024] using h
  · intro h; exact ⟨by simpa [S256x1024] using h, Nat.zero_le _, by simpa [S256x1024] using h1⟩
theorem mem_rh0 (i : S1024x1024.Idx) : i ∈ rh0.set ↔ (i 0).val < 512 := by
  rw [Rect.mem_set_unit, Fin.forall_fin_two]
  have h1 := (i 1).isLt
  constructor
  · rintro ⟨h, -⟩; simpa [S512x1024] using h.2
  · intro h; exact ⟨⟨Nat.zero_le _, by simpa [S512x1024] using h⟩, Nat.zero_le _, by simpa [S512x1024] using h1⟩
theorem mem_rh1 (i : S1024x1024.Idx) : i ∈ rh1.set ↔ 512 ≤ (i 0).val := by
  rw [Rect.mem_set_unit, Fin.forall_fin_two]
  have h0 := (i 0).isLt; have h1 := (i 1).isLt
  constructor
  · rintro ⟨h, -⟩; simpa [S512x1024] using h.1
  · intro h; exact ⟨⟨by simpa [S512x1024] using h, by simpa [S512x1024] using h0⟩, Nat.zero_le _, by simpa [S512x1024] using h1⟩

theorem disj_q : Disjoint rq0.set rq1.set := by
  rw [Finset.disjoint_left]; intro i h h'; rw [mem_rq0] at h; rw [mem_rq1] at h'; omega
theorem disj_qh : Disjoint (rq0.set ∪ rq1.set) rh1.set := by
  rw [Finset.disjoint_left]; intro i h h'
  rw [Finset.mem_union, mem_rq0, mem_rq1] at h; rw [mem_rh1] at h'; omega
theorem disj_h : Disjoint rh0.set rh1.set := by
  rw [Finset.disjoint_left]; intro i h h'; rw [mem_rh0] at h; rw [mem_rh1] at h'; omega
theorem cover_q : (rq0.set ∪ rq1.set) ∪ rh1.set = Finset.univ := by
  refine Finset.eq_univ_of_forall fun i => ?_
  rw [Finset.mem_union, Finset.mem_union, mem_rq0, mem_rq1, mem_rh1]; omega
theorem cover_h : rh0.set ∪ rh1.set = Finset.univ := by
  refine Finset.eq_univ_of_forall fun i => ?_
  rw [Finset.mem_union, mem_rh0, mem_rh1]; omega

section Pieces
variable {e : EltTy} (c : Dev nD) (M : Memref sig .tc .vmem S1024x1024 e)

theorem set_q : ((q0 M).view.set ∪ (q1 M).view.set) ∪ (h1 M).view.set = M.view.set := by
  rw [View.set_slice, View.set_slice, View.set_slice, ← Finset.map_union, ← Finset.map_union, cover_q]; rfl
theorem set_h : (h0 M).view.set ∪ (h1 M).view.set = M.view.set := by
  rw [View.set_slice, View.set_slice, ← Finset.map_union, cover_h]; rfl
theorem sdisj_q : Disjoint (q0 M).view.set (q1 M).view.set := by
  rw [View.set_slice, View.set_slice]; exact (Finset.disjoint_map _).mpr disj_q
theorem sdisj_qh : Disjoint ((q0 M).view.set ∪ (q1 M).view.set) (h1 M).view.set := by
  rw [View.set_slice, View.set_slice, View.set_slice, ← Finset.map_union]; exact (Finset.disjoint_map _).mpr disj_qh
theorem sdisj_h : Disjoint (h0 M).view.set (h1 M).view.set := by
  rw [View.set_slice, View.set_slice]; exact (Finset.disjoint_map _).mpr disj_h

/-- A buffer cut into its three row pieces. -/
theorem cut_q : (some' (F := F) c M : sProp 𝕄) ⊢ iprop(some' c (q0 M) ∗ some' c (q1 M) ∗ some' c (h1 M)) := by
  unfold some'
  iintro ⟨%f, H⟩
  ihave H := (Entails.of_eq (congrArg (fun S => (M.view.loc (c : Thread nD τ) ↦[S]{fullShare} f : sProp 𝕄)) (set_q M).symm)) $$ H
  ihave H := (pointsTo_union (ℓ := M.view.loc (c : Thread nD τ)) (sdisj_qh M)).1 $$ H
  icases H with ⟨H, H2⟩
  ihave H := (pointsTo_union (ℓ := M.view.loc (c : Thread nD τ)) (sdisj_q M)).1 $$ H
  icases H with ⟨H0, H1⟩
  isplitl [H0]; · iexists f; iexact H0
  isplitl [H1]; · iexists f; iexact H1
  iexists f; iexact H2
/-- A buffer cut into its two halves. -/
theorem cut_h : (some' (F := F) c M : sProp 𝕄) ⊢ iprop(some' c (h0 M) ∗ some' c (h1 M)) := by
  unfold some'
  iintro ⟨%f, H⟩
  ihave H := (Entails.of_eq (congrArg (fun S => (M.view.loc (c : Thread nD τ) ↦[S]{fullShare} f : sProp 𝕄)) (set_h M).symm)) $$ H
  ihave H := (pointsTo_union (ℓ := M.view.loc (c : Thread nD τ)) (sdisj_h M)).1 $$ H
  icases H with ⟨H0, H1⟩
  isplitl [H0]; · iexists f; iexact H0
  iexists f; iexact H1
/-- The three row pieces joined. -/
theorem join_q : iprop(some' (F := F) c (q0 M) ∗ some' c (q1 M) ∗ some' c (h1 M)) ⊢ (some' c M : sProp 𝕄) := by
  unfold some'
  iintro ⟨⟨%f0, H0⟩, ⟨%f1, H1⟩, ⟨%f2, H2⟩⟩
  ihave H := (pointsTo_join (ℓ := M.view.loc (c : Thread nD τ)) (sdisj_q M)) $$ [H0 H1]
  · isplitl [H0]; · iexact H0
    iexact H1
  ihave H := (pointsTo_join (ℓ := M.view.loc (c : Thread nD τ)) (sdisj_qh M)) $$ [H H2]
  · isplitl [H]; · iexact H
    iexact H2
  iexists _
  iapply (Entails.of_eq (congrArg (fun S => (M.view.loc (c : Thread nD τ) ↦[S]{fullShare} _ : sProp 𝕄)) (set_q M)))
  iexact H
/-- The two halves joined. -/
theorem join_h : iprop(some' (F := F) c (h0 M) ∗ some' c (h1 M)) ⊢ (some' c M : sProp 𝕄) := by
  unfold some'
  iintro ⟨⟨%f0, H0⟩, ⟨%f1, H1⟩⟩
  ihave H := (pointsTo_join (ℓ := M.view.loc (c : Thread nD τ)) (sdisj_h M)) $$ [H0 H1]
  · isplitl [H0]; · iexact H0
    iexact H1
  iexists _
  iapply (Entails.of_eq (congrArg (fun S => (M.view.loc (c : Thread nD τ) ↦[S]{fullShare} _ : sProp 𝕄)) (set_h M)))
  iexact H

/-- The three row pieces holding `w0`, `w1`, `w2`: the buffer, holding the three written in turn. -/
theorem join_held (w0 w1 : S256x1024.Idx → Elt F e) (w2 : S512x1024.Idx → Elt F e) :
    iprop(held c (q0 M) w0 ∗ held c (q1 M) w1 ∗ held c (h1 M) w2)
      ⊢ (M.view.loc (c : Thread nD τ) ↦[M.view.set]{fullShare}
          (h1 M).view.write (Elt F) ((q1 M).view.write (Elt F) (fill (q0 M) w0) w1 Finset.univ) w2 Finset.univ : sProp 𝕄) := by
  have e2 : (held c (h1 M) w2 : sProp 𝕄) = (M.view.loc (c : Thread nD τ) ↦[(h1 M).view.set]{fullShare}
      (h1 M).view.write (Elt F) ((q1 M).view.write (Elt F) (fill (q0 M) w0) w1 Finset.univ) w2 Finset.univ : sProp 𝕄) :=
    (held_intro c (h1 M) w2 _).symm
  have e1 : (held c (q1 M) w1 : sProp 𝕄) = (M.view.loc (c : Thread nD τ) ↦[(q1 M).view.set]{fullShare}
      (h1 M).view.write (Elt F) ((q1 M).view.write (Elt F) (fill (q0 M) w0) w1 Finset.univ) w2 Finset.univ : sProp 𝕄) :=
    (held_intro c (q1 M) w1 (fill (q0 M) w0)).symm.trans (pointsTo_congr fun i hi =>
      (View.write_of_not_mem _ _ _ fun h => Finset.disjoint_left.mp (sdisj_qh M) (Finset.mem_union_right _ hi) h).symm)
  have e0 : (held c (q0 M) w0 : sProp 𝕄) = (M.view.loc (c : Thread nD τ) ↦[(q0 M).view.set]{fullShare}
      (h1 M).view.write (Elt F) ((q1 M).view.write (Elt F) (fill (q0 M) w0) w1 Finset.univ) w2 Finset.univ : sProp 𝕄) := by
    unfold held
    exact pointsTo_congr fun i hi => ((View.write_of_not_mem _ _ _ fun h =>
      Finset.disjoint_left.mp (sdisj_qh M) (Finset.mem_union_left _ hi) h).trans
      (View.write_of_not_mem _ _ _ fun h => Finset.disjoint_left.mp (sdisj_q M) hi h)).symm
  rw [e0, e1, e2]
  iintro ⟨H0, H1, H2⟩
  ihave H := (pointsTo_union (ℓ := M.view.loc (c : Thread nD τ)) (sdisj_q M)).2 $$ [H0 H1]
  · isplitl [H0]; · iexact H0
    iexact H1
  ihave H := (pointsTo_union (ℓ := M.view.loc (c : Thread nD τ)) (sdisj_qh M)).2 $$ [H H2]
  · isplitl [H]; · iexact H
    iexact H2
  iapply (Entails.of_eq (congrArg (fun S => (M.view.loc (c : Thread nD τ) ↦[S]{fullShare} _ : sProp 𝕄)) (set_q M)))
  iexact H

end Pieces

/-! ## Loads and stores -/

abbrev 𝒱₀ : Variants := Variants.none
/-- Device `c` running `p` reaches `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Mem
variable {α : Type} (c : Dev nD) {s : Shape} {e : EltTy}

/-- A load through a rectangle of a memref of which exactly that piece is owned. -/
theorem load_held (M : Memref sig .tc .vmem s e) (r : Rect s) (hr : ∀ a, r.stride a = 1) (w : r.shape.Idx → Elt F e)
    {hl : M.view.LoadsAt r} {k : (r.shape.Idx → Elt F e) → Prog (TpuEff nD τ sig (Elt F) Λ₀ .tc) α} {Q : α → sProp 𝕄} :
    held c (M.slice r hr) w ⊢ iprop((held c (M.slice r hr) w -∗ runs c (k w) Q) -∗ runs c (.op (.load M r hl) k) Q) := by
  unfold held
  iintro H Hk
  iapply (wp_load_rect 𝒱₀ (c : Thread nD τ) none Set.univ (m := M) (r := r) (S := (M.access r).set) (le_refl _)) $$ H
  rw [show (M.access r).read (Elt F) (fill (M.slice r hr) w) = w from View.read_write_univ _ _]
  iintro H
  iapply Hk
  iexact H

/-- The old contents loaded and left alone. -/
theorem peek (M : Memref sig .tc .vmem s e) (r : Rect s) (hr : ∀ a, r.stride a = 1)
    {hl : M.view.LoadsAt r} {k : (r.shape.Idx → Elt F e) → Prog (TpuEff nD τ sig (Elt F) Λ₀ .tc) α} {Q : α → sProp 𝕄} :
    some' (F := F) c (M.slice r hr) ⊢ iprop((∀ v, some' (F := F) c (M.slice r hr) -∗ runs c (k v) Q) -∗ runs c (.op (.load M r hl) k) Q) := by
  unfold some'
  iintro ⟨%f, H⟩ Hk
  iapply (wp_load_rect 𝒱₀ (c : Thread nD τ) none Set.univ (m := M) (r := r) (le_refl _)) $$ H
  iintro H
  iapply Hk
  iexists f; iexact H

/-- The piece stored over. -/
theorem put (M : Memref sig .tc .vmem s e) (r : Rect s) (hr : ∀ a, r.stride a = 1) (w : r.shape.Idx → Elt F e)
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    some' (F := F) c (M.slice r hr)
      ⊢ iprop((held c (M.slice r hr) w -∗ runs c (k ⟨⟩) Q) -∗ runs c (.op (.store M r w Finset.univ hx hm) k) Q) := by
  unfold some'
  iintro ⟨%f, H⟩ Hk
  iapply (wp_store 𝒱₀ (c : Thread nD τ) none Set.univ (m := M) (r := r) (Mk := Finset.univ) (S := (M.access r).set) (le_refl _)) $$ H
  iintro H
  iapply Hk
  iapply (Entails.of_eq (held_intro c (M.slice r hr) w f)) $$ H

/-- The destination's old contents loaded, then the piece stored over. -/
theorem refill (M : Memref sig .tc .vmem s e) (r : Rect s) (hr : ∀ a, r.stride a = 1) (w : r.shape.Idx → Elt F e)
    {hl : M.view.LoadsAt r} {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    some' (F := F) c (M.slice r hr)
      ⊢ iprop((held c (M.slice r hr) w -∗ runs c (k ⟨⟩) Q) -∗ runs c (.op (.load M r hl) fun _ => .op (.store M r w Finset.univ hx hm) k) Q) := by
  unfold some'
  iintro ⟨%f, H⟩ Hk
  iapply (wp_load_rect 𝒱₀ (c : Thread nD τ) none Set.univ (m := M) (r := r) (le_refl _)) $$ H
  iintro H
  iapply (wp_store 𝒱₀ (c : Thread nD τ) none Set.univ (m := M) (r := r) (Mk := Finset.univ) (S := (M.access r).set) (le_refl _)) $$ H
  iintro H
  iapply Hk
  iapply (Entails.of_eq (held_intro c (M.slice r hr) w f)) $$ H

end Mem

/-! ## The buffers that travel whole -/

section Whole
variable {α : Type} (c : Dev nD)

theorem hz : (![0, 0] : Fin 2 → Nat) = fun _ => 0 := funext fun a => by fin_cases a <;> rfl

abbrev rAll : Rect S1024x1024 := Rect.unit (s := S1024x1024) ![0, 0] S1024x1024.size inb_S1024x1024_S1024x1024_0_0

/-- A load of a whole buffer. -/
theorem load_whole (b : Bool) (w : S1024x1024.Idx → Elt F .bf16)
    {hl : (fR b).view.LoadsAt rAll} {k : (S1024x1024.Idx → Elt F .bf16) → Prog (TpuEff nD τ sig (Elt F) Λ₀ .tc) α} {Q : α → sProp 𝕄} :
    held c (fR b) w ⊢ iprop((held c (fR b) w -∗ runs c (k w) Q) -∗ runs c (.op (.load (fR b) rAll hl) k) Q) := by
  have hr : (fR b).view.readAt (Elt F) rAll.toLoadRect (fill (fR b) w) = w := by
    cases b
    · exact (Memref.readAt_unit_zero (Elt F) cc0_scratch7 hz _ _).trans (View.write_whole_univ _ _ _)
    · exact (Memref.readAt_unit_zero (Elt F) cc0_scratch5 hz _ _).trans (View.write_whole_univ _ _ _)
  have hs : (fR b).view.set = Finset.univ := by cases b <;> exact View.set_whole _
  unfold held
  iintro H Hk
  iapply (wp_load 𝒱₀ (c : Thread nD τ) none Set.univ (m := fR b) (S := (fR b).view.set) (by rw [hs]; exact Finset.subset_univ _)) $$ H
  rw [hr]
  iintro H
  iapply Hk
  iexact H

/-- A whole buffer loaded, then stored over. -/
theorem refill_whole (b : Bool) (w : S1024x1024.Idx → Elt F .bf16)
    {hl : (fS b).view.LoadsAt rAll} {hx : ((fS b).access rAll).Stores Finset.univ} {hm : (Finset.univ : Finset rAll.shape.Idx) = Finset.univ ∨ ∀ a, rAll.stride a = 1}
    {k : PUnit → Prog (TpuEff nD τ sig (Elt F) Λ₀ .tc) α} {Q : α → sProp 𝕄} :
    some' (F := F) c (fS b)
      ⊢ iprop((held c (fS b) w -∗ runs c (k ⟨⟩) Q) -∗ runs c (.op (.load (fS b) rAll hl) fun _ => .op (.store (fS b) rAll w Finset.univ hx hm) k) Q) := by
  have hs : (fS b).view.set = Finset.univ := by cases b <;> exact View.set_whole _
  have hw : ∀ f, ((fS b).access rAll).write (Elt F) f w Finset.univ = fill (fS b) w := by
    intro f
    cases b
    · exact (Memref.write_access_unit_zero_univ (Elt F) cc0_scratch6 hz _ f w).trans (View.write_whole_univ _ _ _).symm
    · exact (Memref.write_access_unit_zero_univ (Elt F) cc0_scratch4 hz _ f w).trans (View.write_whole_univ _ _ _).symm
  unfold some' held
  iintro ⟨%f, H⟩ Hk
  iapply (wp_load 𝒱₀ (c : Thread nD τ) none Set.univ (m := fS b) (by rw [hs]; exact Finset.subset_univ _)) $$ H
  iintro H
  iapply (wp_store 𝒱₀ (c : Thread nD τ) none Set.univ (m := fS b) (r := rAll) (Mk := Finset.univ) (by rw [hs]; exact Finset.subset_univ _)) $$ H
  rw [hw]
  iintro H
  iapply Hk
  iexact H

end Whole

end Cert.FourWay

end
-- ==== Proof.Comm.lean ====
/-
The communication steps: the two signals, the barrier's wait, a transfer, and the two waits of a transfer.
-/
module

public import proofs.«01_k».proof.Proof.Steps

@[expose] public section

noncomputable section

namespace Cert.FourWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (W : Dev nD → (cc0_stg1_0 : Ref sig .tc).ty.Contents (Elt F))
variable (K : Dev nD × Cx → ℕ)

/-- What every step may read: the cells' invariants and the levels. -/
def env : sProp 𝕄 := iprop(records X W K ∗ levAts L lv)
instance env_persistent : BI.Persistent (env X W K) := by unfold env; infer_instance

theorem env_cell (ck : Dev nD × Cx) : env X W K ⊢ iprop(cellInv ER (Rd X W) (K ck) (kcell ck) ∗ reached ER (kcell ck) 0) := by
  unfold env; iintro ⟨H, -⟩; iapply (records_at X W K ck) $$ H
theorem env_wait (c : Dev nD) (sm : SemLoc sig) (l : List Due) (h : ∀ d ∈ l, lvS sm < lvS d.2.1) :
    env X W K ⊢ MayWait (c : Thread nD τ) sm () (owedL c l) := by
  unfold env; iintro ⟨-, H⟩; iapply (mayWait c sm l h) $$ H

/-- Device `c` owes the dues `l`. -/
def ow (c : Dev nD) (l : List Due) : sProp 𝕄 := iprop(∃ Ws, owes (c : Thread nD τ) (owedL c l) Ws)

/-- What the signal along lane `b` hands over: its barrier token and the lane's landing buffers. -/
theorem signal_step (c n : Dev nD) (b : Bool) (hn : n = peer b c) (l : List Due) {α : Type}
    {k : PUnit → Prog (TpuEff nD τ sig (Elt F) Λ₀ .tc) α} {Q : α → sProp 𝕄} :
    env X W K
      ⊢ iprop(ow c ((b, .reg barS, 1) :: l) -∗ dutyTok ER (barCell (peer b c)) 0 b -∗ landing b c -∗ (ow c l -∗ runs c (k ⟨⟩) Q) -∗ runs c (.op (.semSignal n barS 1) k) Q) := by
  subst hn
  iintro #He HO Ht Hl Hk
  unfold ow
  icases HO with ⟨%Ws, HO⟩
  ihave #Hc := (env_cell X W K (peer b c, .inl ())) $$ He
  icases Hc with ⟨#HI, #Hr⟩
  iapply (Rounds.wp_signal 𝒱₀ ER (Rd X W) (c : Thread nD τ) none (dst := (peer b c : Thread nD τ)) (κ := K (peer b c, .inl ()))
      (d := b) (by rw [duties_bar]; exact Finset.mem_univ _) ((amount_bar X W (peer b c) b).trans (by decide)) () (owedL c l) rfl)
    $$ [HO Ht Hl]
  · isplitr; · iexact HI
    isplitl [HO]; · iexact HO
    isplitl [Ht]; · iexact Ht
    isplitl [Hl]; · rw [payload_bar, peer_peer]; iexact Hl
    iexact Hr
  iintro HO
  iapply Hk
  iexists Ws; iexact HO

/-- The barrier's wait: both partners' landing buffers arrive, and the barrier is closed. -/
theorem barrier_step (c : Dev nD) (l : List Due) (hl : ∀ d ∈ l, 1 < lvS d.2.1) {α : Type}
    {k : PUnit → Prog (TpuEff nD τ sig (Elt F) Λ₀ .tc) α} {Q : α → sProp 𝕄} :
    env X W K
      ⊢ iprop(ow c l -∗ cred (tallyAt (barCell c) () 2) -∗ atPos ER (barCell c) 0 ∅ 0 -∗ (ow c l -∗ semVal (barCell c) 0 -∗ landing true (peer true c) -∗ landing false (peer false c) -∗ runs c (k ⟨⟩) Q)
          -∗ runs c (.op (.semWait barS 2) k) Q) := by
  iintro #He HO Hc Hat Hk
  unfold ow
  icases HO with ⟨%Ws, HO⟩
  ihave #Hb := (env_cell X W K (c, .inl ())) $$ He
  icases Hb with ⟨#HI, -⟩
  ihave HM := (env_wait X W K c (.reg barS) l hl) $$ He
  iapply (Rounds.wp_wait_rest_token 𝒱₀ ER (Rd X W) (c : Thread nD τ) none (κ := K (c, .inl ()))
      (wpE_semWait_eq 𝒱₀ (c : Thread nD τ) none Set.univ) (Set.mem_univ _) () (O := owedL c l) (W := Ws) (R := 0) (m := 0) (T := ∅)
      (by rw [expect_bar])) $$ [Hc HO HM Hat]
  · isplitr; · iexact HI
    isplitl [Hc]; · iexact Hc
    isplitl [HO]; · iexact HO
    isplitl [HM]; · iexact HM
    iexact Hat
  iintro ⟨HO, Hat, -, Hpay⟩
  ihave Hp := (Entails.of_eq (rest_bar X W c)) $$ Hpay
  imod (Rounds.cell_close ER (Rd X W) (Set.mem_univ (K (c, .inl ()))) (fun h => h) (R := 0 + 1) (duties_later X W (barCell c))) $$ [Hat] with Hz
  · isplitr; · iexact HI
    iexact Hat
  icases Hp with ⟨Hp1, Hp2⟩
  iapply Hk $$ [HO] Hz Hp1 Hp2
  iexists _; iexact HO

/-- A transfer: piece `w` from `src` to the partner's `dst`. -/
theorem send_step (c n : Dev nD) (b : Bool) (i : Fin 6) (hn : n = peer b c) {s : Shape} {e : EltTy} (src dst : Memref sig .tc .vmem s e)
    (w : s.Idx → Elt F e) {l' : List Due} (l : List Due) (hd : l' = due b i :: l) (hS : paySend X W c b i = held c src w) (hR : payRecv X W (peer b c) b i = held (peer b c) dst w)
    (hN : dst.view.dmaCredit = amt b i)
    {hsc : (dst : Memref sig (Dev.tc n : Thread nD τ).2.kind .vmem s e).view.ref.isScScratch = false}
    {hsrc : src.view.WordExact} {hdst : dst.view.WordExact}
    {hsem : DmaTarget.Typed .vmem (.dma (sR b i)) (.remote (Dev.tc n : Thread nD τ) dst (.dma (sS b i)) hsc)}
    {α : Type} {k : PUnit → Prog (TpuEff nD τ sig (Elt F) Λ₀ .tc) α} {Q : α → sProp 𝕄} :
    env X W K
      ⊢ iprop(ow c l' -∗ St0 c b i -∗ held c src w -∗ some' (F := F) (peer b c) dst -∗ (ow c l -∗ St1 c b i -∗ runs c (k ⟨⟩) Q)
          -∗ runs c (.op (.enqueueDma src (.remote (Dev.tc n : Thread nD τ) dst (.dma (sS b i)) hsc) (.dma (sR b i)) hsrc hdst hsem) k) Q) := by
  subst hn hd
  iintro #He HO HS Hsrc Hdst Hk
  unfold ow some' held St0 St1
  icases HO with ⟨%Ws, HO⟩
  icases Hdst with ⟨%fd, Hdst⟩
  icases HS with ⟨⟨Ht, HtP⟩, Ha, Hb, Hc⟩
  ihave #H1 := (env_cell X W K (c, .inr (false, b, i))) $$ He
  icases H1 with ⟨#HI1, #Hr1⟩
  ihave #H2 := (env_cell X W K (peer b c, .inr (true, b, i))) $$ He
  icases H2 with ⟨#HI2, #Hr2⟩
  iapply (Rounds.wp_send_pointsTo 𝒱₀ ER (Rd X W) (c : Thread nD τ) none (κ₁ := K (c, .inr (false, b, i))) (κ₂ := K (peer b c, .inr (true, b, i)))
    (r₁ := 0) (r₂ := 0) (d₁ := false) (d₂ := false) (fd := fd)
    (by rw [duties_dma]; exact Finset.mem_singleton_self _) (by rw [duties_dma]; exact Finset.mem_singleton_self _)
    () () (amt b i) (show dst.view.amount (.dma (sR b i)) = amt b i from hN) (amount_s X W c b i false) (amount_r X W (peer b c) b i false) (owedL c l) rfl (W := Ws)
    (by rw [payload_s, hS]; unfold held; exact BI.Entails.refl _)
    (by rw [payload_r, hR, ← held_intro (peer b c) dst w fd, fill, View.read_write_univ])) $$ [HO Hsrc Hdst Ht HtP]
  · isplitr; · iexact HI1
    isplitr; · iexact HI2
    isplitl [Hsrc]; · iexact Hsrc
    isplitl [Hdst]; · iexact Hdst
    isplitl [HO]; · iexact HO
    isplitl [Ht]; · iexact Ht
    isplitr; · iexact Hr1
    isplitl [HtP]; · iexact HtP
    iexact Hr2
  iintro ⟨HC, HO⟩
  iapply Hk $$ [HO] [HC Ha Hb Hc]
  · iexists Ws; iexact HO
  isplitl [HC]; · iexact HC
  isplitl [Ha]; · iexact Ha
  isplitl [Hb]; · iexact Hb
  iexact Hc

/-- The wait of a transfer at its sender: the piece is back and the semaphore closed. -/
theorem back_step (c : Dev nD) (b : Bool) (i : Fin 6) {s s' : Shape} {e e' : EltTy} {src : Memref sig .tc .vmem s e} {dst : Memref sig .tc .vmem s' e'}
    (l : List Due) (hl : ∀ d ∈ l, 0 < lvS d.2.1) (hN : dst.view.dmaCredit = amt b i) {hsrc : src.view.WordExact} {hdst : dst.view.WordExact}
    {α : Type} {k : PUnit → Prog (TpuEff nD τ sig (Elt F) Λ₀ .tc) α} {Q : α → sProp 𝕄} :
    env X W K
      ⊢ iprop(ow c l -∗ St1 c b i -∗ (ow c l -∗ St2 c b i -∗ paySend X W c b i -∗ runs c (k ⟨⟩) Q)
          -∗ runs c (.op (.waitDma2 (sS b i) src dst hsrc hdst) k) Q) := by
  iintro #He HO HS Hk
  unfold ow St1 St2
  icases HO with ⟨%Ws, HO⟩
  icases HS with ⟨HC, Hat, Hb, Hc⟩
  ihave #H1 := (env_cell X W K (c, .inr (false, b, i))) $$ He
  icases H1 with ⟨#HI, -⟩
  ihave HM := (env_wait X W K c (.dma (sS b i)) l (fun d hd => lt_of_eq_of_lt (congrArg lvOf (decode_sS b i)) (hl d hd))) $$ He
  iapply (Rounds.wp_wait_rest_token 𝒱₀ ER (Rd X W) (c : Thread nD τ) none (κ := K (c, .inr (false, b, i)))
      (wpE_waitDma2_eq 𝒱₀ (c : Thread nD τ) none Set.univ) (Set.mem_univ _) () (O := owedL c l) (W := Ws) (R := 0) (m := 0) (T := ∅)
      (by rw [Nat.zero_add, hN, expect_s X W c b i])) $$ [HC HO HM Hat]
  · isplitr; · iexact HI
    isplitl [HC]; · rw [hN]; iexact HC
    isplitl [HO]; · iexact HO
    isplitl [HM]; · iexact HM
    iexact Hat
  iintro ⟨HO, Hat, -, Hpay⟩
  ihave Hp := (Entails.of_eq (rest_s X W c b i)) $$ Hpay
  imod (Rounds.cell_close ER (Rd X W) (Set.mem_univ (K (c, .inr (false, b, i)))) (fun h => h) (R := 0 + 1) (duties_later X W (sCell c b i))) $$ [Hat] with Hz
  · isplitr; · iexact HI
    iexact Hat
  iapply Hk $$ [HO] [Hz Hb Hc] Hp
  · iexists _; iexact HO
  isplitl [Hz]; · iexact Hz
  isplitl [Hb]; · iexact Hb
  iexact Hc

/-- The wait of a transfer at its receiver: the partner's piece is in and the semaphore closed. -/
theorem land_step (c : Dev nD) (b : Bool) (i : Fin 6) {s s' : Shape} {e e' : EltTy} {src : Memref sig .tc .vmem s e} {dst : Memref sig .tc .vmem s' e'}
    (l : List Due) (hl : ∀ d ∈ l, lvOf (some (true, b, i)) < lvS d.2.1) (hN : dst.view.dmaCredit = amt b i)
    {hsrc : src.view.WordExact} {hdst : dst.view.WordExact}
    {α : Type} {k : PUnit → Prog (TpuEff nD τ sig (Elt F) Λ₀ .tc) α} {Q : α → sProp 𝕄} :
    env X W K
      ⊢ iprop(ow c l -∗ St2 c b i -∗ (ow c l -∗ St3 c b i -∗ payRecv X W c b i -∗ runs c (k ⟨⟩) Q)
          -∗ runs c (.op (.waitDma2 (sR b i) src dst hsrc hdst) k) Q) := by
  iintro #He HO HS Hk
  unfold ow St2 St3
  icases HO with ⟨%Ws, HO⟩
  icases HS with ⟨Hz', Hat, HC⟩
  ihave #H1 := (env_cell X W K (c, .inr (true, b, i))) $$ He
  icases H1 with ⟨#HI, -⟩
  ihave HM := (env_wait X W K c (.dma (sR b i)) l (fun d hd => lt_of_eq_of_lt (congrArg lvOf (decode_sR b i)) (hl d hd))) $$ He
  iapply (Rounds.wp_wait_rest_token 𝒱₀ ER (Rd X W) (c : Thread nD τ) none (κ := K (c, .inr (true, b, i)))
      (wpE_waitDma2_eq 𝒱₀ (c : Thread nD τ) none Set.univ) (Set.mem_univ _) () (O := owedL c l) (W := Ws) (R := 0) (m := 0) (T := ∅)
      (by rw [Nat.zero_add, hN, expect_r X W c b i])) $$ [HC HO HM Hat]
  · isplitr; · iexact HI
    isplitl [HC]; · rw [hN]; iexact HC
    isplitl [HO]; · iexact HO
    isplitl [HM]; · iexact HM
    iexact Hat
  iintro ⟨HO, Hat, -, Hpay⟩
  ihave Hp := (Entails.of_eq (rest_r X W c b i)) $$ Hpay
  imod (Rounds.cell_close ER (Rd X W) (Set.mem_univ (K (c, .inr (true, b, i)))) (fun h => h) (R := 0 + 1) (duties_later X W (rCell c b i))) $$ [Hat] with Hz
  · isplitr; · iexact HI
    iexact Hat
  iapply Hk $$ [HO] [Hz Hz'] Hp
  · iexists _; iexact HO
  isplitl [Hz']; · iexact Hz'
  iexact Hz

end Cert.FourWay

end
-- ==== Proof.Body1.lean ====
/-
The first stretch of the kernel's body: the signals and the barrier, the diagonal products and the whole products
computed and sent.
-/
module

public import proofs.«01_k».proof.Proof.Comm

@[expose] public section

noncomputable section

namespace Cert.FourWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (W : Dev nD → (cc0_stg1_0 : Ref sig .tc).ty.Contents (Elt F))
variable (K : Dev nD × Cx → ℕ)

/-- The end of a stretch. -/
theorem runs_ret (c : Dev nD) {α : Type} {a : α} {Q : α → sProp 𝕄} : Q a ⊢ runs c (.ret a) Q := by
  unfold runs; rw [wp_ret]; iintro H; imodintro; iexact H

theorem runs_to (c : Dev nD) {α : Type} {a a' : α} (h : a = a') {Q : α → sProp 𝕄} : Q a' ⊢ runs c (.ret a) Q := by
  subst h; exact runs_ret c

/-- The two argument buffers, whole. -/
def xw (c : Dev nD) : sProp 𝕄 :=
  iprop(((c : Thread nD τ).loc cc0_stg0_0 ↦{fullShare} X c) ∗ ((c : Thread nD τ).loc cc0_stg1_0 ↦{fullShare} W c))

/-- A load of a rectangle of `x`. -/
theorem load_x (c : Dev nD) {r : Rect S4096x1024} {α : Type} {hl : xM.view.LoadsAt r}
    {k : (r.shape.Idx → Elt F .bf16) → Prog (TpuEff nD τ sig (Elt F) Λ₀ .tc) α} {Q : α → sProp 𝕄} :
    xw X W c ⊢ iprop((xw X W c -∗ runs c (k (xM.view.readAt (Elt F) r.toLoadRect (X c))) Q) -∗ runs c (.op (.load xM r hl) k) Q) := by
  unfold xw
  iintro ⟨Hx, Hw⟩ Hk
  iapply (wp_load 𝒱₀ (c : Thread nD τ) none Set.univ (m := xM) (Finset.subset_univ _)) $$ Hx; iintro Hx
  iapply Hk
  isplitl [Hx]; · iexact Hx
  iexact Hw
/-- A load of a rectangle of `w`. -/
theorem load_w (c : Dev nD) {r : Rect S1024x2048} {α : Type} {hl : wM.view.LoadsAt r}
    {k : (r.shape.Idx → Elt F .bf16) → Prog (TpuEff nD τ sig (Elt F) Λ₀ .tc) α} {Q : α → sProp 𝕄} :
    xw X W c ⊢ iprop((xw X W c -∗ runs c (k (wM.view.readAt (Elt F) r.toLoadRect (W c))) Q) -∗ runs c (.op (.load wM r hl) k) Q) := by
  unfold xw
  iintro ⟨Hx, Hw⟩ Hk
  iapply (wp_load 𝒱₀ (c : Thread nD τ) none Set.univ (m := wM) (Finset.subset_univ _)) $$ Hw; iintro Hw
  iapply Hk
  isplitl [Hx]; · iexact Hx
  iexact Hw

abbrev part1 : Prog (TpuEff nD τ sig (Elt F) Λ₀ .tc) (Σ' (d0 : Dev nD) (v2 : BitVec 32) (v3 : BitVec 32) (v4 : BitVec 32), BitVec 32) :=
  k0_part1 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15

/-- The signals and the barrier; the first diagonal piece of lane `true`. -/
theorem part1_runs (c : Dev nD) {Q : (Σ' (d0 : Dev nD) (v2 : BitVec 32) (v3 : BitVec 32) (v4 : BitVec 32), BitVec 32) → sProp 𝕄} :
    env X W K ⊢ iprop(ow c dues -∗ dutyTok ER (barCell (peer true c)) 0 true -∗ dutyTok ER (barCell (peer false c)) 0 false
      -∗ landing true c -∗ landing false c -∗ cred (tallyAt (barCell c) () 2) -∗ atPos ER (barCell c) 0 ∅ 0
      -∗ xw X W c -∗ some' c (q0 (dS true))
      -∗ (∀ v2 v3 v4 v6, ow c (sendDues sends) -∗ semVal (barCell c) 0 -∗ landing true (peer true c) -∗ landing false (peer false c)
          -∗ xw X W c -∗ held c (q0 (dS true)) (vD0 X W true c) -∗ Q ⟨c, v2, v3, v4, v6⟩)
      -∗ runs c part1 Q) := by
  simp only [part1, k0_part1_eq_skeleton]
  unfold k0_part1_skel
  simp only [semSignalWord, semWaitWord, Prog.lift, Prog.bind_op, Prog.bind_ret, Prog.pure_eq_ret, Prog.bind_assoc, wp_deviceId]
  iintro #He HO Ht1 Ht2 Hl1 Hl2 Hc Hat Hxw Hs Hk
  unfold dues
  iapply (signal_step X W K c _ true (dev1_eq c) _) $$ He HO Ht1 Hl1; iintro HO
  iapply (signal_step X W K c _ false (dev2_eq c) _) $$ He HO Ht2 Hl2; iintro HO
  iapply (barrier_step X W K c (sendDues sends) (by decide)) $$ He HO Hc Hat; iintro HO Hz Hl1 Hl2
  iapply (load_x X W c) $$ Hxw; iintro Hxw
  iapply (load_w X W c) $$ Hxw; iintro Hxw
  iapply (refill c (dS true) rq0 (fun _ => rfl) (vD0 X W true c)) $$ Hs; iintro Hs
  iapply runs_ret
  iapply Hk $$ %_ %_ %_ %_ HO Hz Hl1 Hl2 Hxw Hs

end Cert.FourWay

end
-- ==== Proof.Body2.lean ====
/-
The body's second to fifth stretches: the diagonal products, computed and sent in three pieces along each lane, and
the whole product of lane `true`.
-/
module

public import proofs.«01_k».proof.Proof.Body1

@[expose] public section

noncomputable section

namespace Cert.FourWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (W : Dev nD → (cc0_stg1_0 : Ref sig .tc).ty.Contents (Elt F))
variable (K : Dev nD × Cx → ℕ)

/-! What each transfer takes and brings, and the units it moves. -/

theorem pS0 (b : Bool) (c : Dev nD) : paySend X W c b 0 = held c (q0 (dS b)) (vD0 X W b c) := rfl
theorem pS1 (b : Bool) (c : Dev nD) : paySend X W c b 1 = held c (q1 (dS b)) (vD1 X W b c) := rfl
theorem pS2 (b : Bool) (c : Dev nD) : paySend X W c b 2 = held c (h1 (dS b)) (vD2 X W b c) := rfl
theorem pS3 (b : Bool) (c : Dev nD) : paySend X W c b 3 = held c (fS b) (vF X W b c) := rfl
theorem pS4 (b : Bool) (c : Dev nD) : paySend X W c b 4 = held c (h0 (gS b)) (vG0 X W b c) := rfl
theorem pS5 (b : Bool) (c : Dev nD) : paySend X W c b 5 = held c (h1 (gS b)) (vG1 X W b c) := rfl
theorem pR0 (b : Bool) (c : Dev nD) : payRecv X W (peer b c) b 0 = held (peer b c) (q0 (dR b)) (vD0 X W b c) := by
  show held (peer b c) (q0 (dR b)) (vD0 X W b (peer b (peer b c))) = _
  rw [peer_peer]
theorem pR1 (b : Bool) (c : Dev nD) : payRecv X W (peer b c) b 1 = held (peer b c) (q1 (dR b)) (vD1 X W b c) := by
  show held (peer b c) (q1 (dR b)) (vD1 X W b (peer b (peer b c))) = _
  rw [peer_peer]
theorem pR2 (b : Bool) (c : Dev nD) : payRecv X W (peer b c) b 2 = held (peer b c) (h1 (dR b)) (vD2 X W b c) := by
  show held (peer b c) (h1 (dR b)) (vD2 X W b (peer b (peer b c))) = _
  rw [peer_peer]
theorem pR3 (b : Bool) (c : Dev nD) : payRecv X W (peer b c) b 3 = held (peer b c) (fR b) (vF X W b c) := by
  show held (peer b c) (fR b) (vF X W b (peer b (peer b c))) = _
  rw [peer_peer]
theorem pR4 (b : Bool) (c : Dev nD) : payRecv X W (peer b c) b 4 = held (peer b c) (h0 (gR b)) (vG0 X W b c) := by
  show held (peer b c) (h0 (gR b)) (vG0 X W b (peer b (peer b c))) = _
  rw [peer_peer]
theorem pR5 (b : Bool) (c : Dev nD) : payRecv X W (peer b c) b 5 = held (peer b c) (h1 (gR b)) (vG1 X W b c) := by
  show held (peer b c) (h1 (gR b)) (vG1 X W b (peer b (peer b c))) = _
  rw [peer_peer]
theorem aN0 (b : Bool) : (q0 (dR b)).view.dmaCredit = amt b 0 := rfl
theorem aN1 (b : Bool) : (q1 (dR b)).view.dmaCredit = amt b 1 := rfl
theorem aN2 (b : Bool) : (h1 (dR b)).view.dmaCredit = amt b 2 := rfl
theorem aN3 (b : Bool) : (fR b).view.dmaCredit = amt b 3 := rfl
theorem aN4 (b : Bool) : (h0 (gR b)).view.dmaCredit = amt b 4 := rfl
theorem aN5 (b : Bool) : (h1 (gR b)).view.dmaCredit = amt b 5 := rfl
theorem aM0 (b : Bool) : (q0 (dS b)).view.dmaCredit = amt b 0 := by cases b <;> rfl
theorem aM1 (b : Bool) : (q1 (dS b)).view.dmaCredit = amt b 1 := by cases b <;> rfl
theorem aM2 (b : Bool) : (h1 (dS b)).view.dmaCredit = amt b 2 := by cases b <;> rfl
theorem aM3 (b : Bool) : (fS b).view.dmaCredit = amt b 3 := by cases b <;> rfl
theorem aM4 (b : Bool) : (h0 (gS b)).view.dmaCredit = amt b 4 := by cases b <;> rfl
theorem aM5 (b : Bool) : (h1 (gS b)).view.dmaCredit = amt b 5 := by cases b <;> rfl
theorem due0 : (sendDues sends) = due true 0 :: sendDues (sends.drop 1) := rfl
theorem due1 : (sendDues (sends.drop 1)) = due false 0 :: sendDues (sends.drop 2) := rfl
theorem due2 : (sendDues (sends.drop 2)) = due true 1 :: sendDues (sends.drop 3) := rfl
theorem due3 : (sendDues (sends.drop 3)) = due false 1 :: sendDues (sends.drop 4) := rfl
theorem due4 : (sendDues (sends.drop 4)) = due true 2 :: sendDues (sends.drop 5) := rfl
theorem due5 : (sendDues (sends.drop 5)) = due false 2 :: sendDues (sends.drop 6) := rfl
theorem due6 : (sendDues (sends.drop 6)) = due true 3 :: sendDues (sends.drop 7) := rfl
theorem due7 : (sendDues (sends.drop 7)) = due false 3 :: sendDues (sends.drop 8) := rfl
theorem due8 : (sendDues (sends.drop 8)) = due false 4 :: sendDues (sends.drop 9) := rfl
theorem due9 : (sendDues (sends.drop 9)) = due false 5 :: sendDues (sends.drop 10) := rfl
theorem due10 : (sendDues (sends.drop 10)) = due true 4 :: sendDues (sends.drop 11) := rfl
theorem due11 : (sendDues (sends.drop 11)) = due true 5 :: sendDues (sends.drop 12) := rfl

abbrev part2 (d0 : Dev nD) (v4 v6 : BitVec 32) : Prog (TpuEff nD τ sig (Elt F) Λ₀ .tc) (FVec F S256x1024 .f32) :=
  k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 d0 v4 v6

/-- The first pieces sent along both lanes; the second piece of lane `true` computed. -/
theorem part2_runs (c : Dev nD) (v4 v6 : BitVec 32) {Q : (FVec F S256x1024 .f32) → sProp 𝕄} :
    env X W K ⊢ iprop(ow c (sendDues sends) -∗ St0 c true 0 -∗ St0 c false 0 -∗ xw X W c -∗ held c (q0 (dS true)) (vD0 X W true c) -∗ some' c (q0 (dS false)) -∗ some' (peer true c) (q0 (dR true)) -∗ some' (peer false c) (q0 (dR false))
      -∗ (ow c (sendDues (sends.drop 2)) -∗ St1 c true 0 -∗ St1 c false 0 -∗ xw X W c -∗ Q (k0_pay4 (xD1 X c) (wH W c true))) -∗ runs c (part2 c v4 v6) Q) := by
  simp only [part2, k0_part2_eq_skeleton]
  unfold k0_part2_skel
  simp only [Prog.lift, Prog.bind_op, Prog.bind_ret, Prog.pure_eq_ret, Prog.bind_assoc]
  simp only [ssx0, rsx0, ssy0, rsy0]
  iintro #He HO HA HB Hxw Hs Ht Hd He2 Hk
  iapply (send_step X W K c _ true 0 (dev3_eq c) (q0 (dS true)) (q0 (dR true)) (vD0 X W true c) (sendDues (sends.drop 1)) due0 (pS0 X W true c) (pR0 X W true c) (aN0 true))
    $$ He HO HA Hs Hd; iintro HO HA
  iapply (load_x X W c) $$ Hxw; iintro Hxw
  iapply (load_w X W c) $$ Hxw; iintro Hxw
  iapply (refill c (dS false) rq0 (fun _ => rfl) (vD0 X W false c)) $$ Ht; iintro Ht
  iapply (send_step X W K c _ false 0 (dev4_eq c) (q0 (dS false)) (q0 (dR false)) (vD0 X W false c) (sendDues (sends.drop 2)) due1 (pS0 X W false c) (pR0 X W false c) (aN0 false))
    $$ He HO HB Ht He2; iintro HO HB
  iapply (load_x X W c) $$ Hxw; iintro Hxw
  iapply (load_w X W c) $$ Hxw; iintro Hxw
  iapply (runs_to c (a' := (k0_pay4 (xD1 X c) (wH W c true))) rfl)
  iapply Hk $$ HO HA HB Hxw

abbrev part3 (d0 : Dev nD) (v3 v4 v6 : BitVec 32) (v59 : FVec F S256x1024 .f32) : Prog (TpuEff nD τ sig (Elt F) Λ₀ .tc) (PUnit) :=
  k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 d0 v3 v4 v6 v59

/-- The second piece of lane `true` sent, that of lane `false` computed. -/
theorem part3_runs (c : Dev nD) (v3 v4 v6 : BitVec 32) {Q : (PUnit) → sProp 𝕄} :
    env X W K ⊢ iprop(ow c (sendDues (sends.drop 2)) -∗ St0 c true 1 -∗ xw X W c -∗ some' c (q1 (dS true)) -∗ some' c (q1 (dS false)) -∗ some' (peer true c) (q1 (dR true))
      -∗ (ow c (sendDues (sends.drop 3)) -∗ St1 c true 1 -∗ xw X W c -∗ held c (q1 (dS false)) (vD1 X W false c) -∗ Q ⟨⟩) -∗ runs c (part3 c v3 v4 v6 (k0_pay4 (xD1 X c) (wH W c true))) Q) := by
  simp only [part3, k0_part3_eq_skeleton]
  unfold k0_part3_skel
  simp only [Prog.lift, Prog.bind_op, Prog.bind_ret, Prog.pure_eq_ret, Prog.bind_assoc]
  simp only [ssx1, rsx1]
  iintro #He HO HA Hxw Hs Ht Hd Hk
  iapply (refill c (dS true) rq1 (fun _ => rfl) (vD1 X W true c)) $$ Hs; iintro Hs
  iapply (send_step X W K c _ true 1 (dev5_eq c) (q1 (dS true)) (q1 (dR true)) (vD1 X W true c) (sendDues (sends.drop 3)) due2 (pS1 X W true c) (pR1 X W true c) (aN1 true))
    $$ He HO HA Hs Hd; iintro HO HA
  iapply (load_x X W c) $$ Hxw; iintro Hxw
  iapply (load_w X W c) $$ Hxw; iintro Hxw
  iapply (refill c (dS false) rq1 (fun _ => rfl) (vD1 X W false c)) $$ Ht; iintro Ht
  iapply runs_ret
  iapply Hk $$ HO HA Hxw Ht

abbrev part4 (d0 : Dev nD) (v3 v6 : BitVec 32) : Prog (TpuEff nD τ sig (Elt F) Λ₀ .tc) (FVec F S512x1024 .fp8e4m3) :=
  k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 d0 v3 v6

/-- The second piece of lane `false` sent, the third of lane `true` computed and sent, that of lane `false` computed. -/
theorem part4_runs (c : Dev nD) (v3 v6 : BitVec 32) {Q : (FVec F S512x1024 .fp8e4m3) → sProp 𝕄} :
    env X W K ⊢ iprop(ow c (sendDues (sends.drop 3)) -∗ St0 c false 1 -∗ St0 c true 2 -∗ xw X W c -∗ held c (q1 (dS false)) (vD1 X W false c) -∗ some' (peer false c) (q1 (dR false)) -∗ some' c (h1 (dS true)) -∗ some' (peer true c) (h1 (dR true)) -∗ some' c (h1 (dS false))
      -∗ (ow c (sendDues (sends.drop 5)) -∗ St1 c false 1 -∗ St1 c true 2 -∗ xw X W c -∗ some' c (h1 (dS false)) -∗ Q (vD2 X W false c)) -∗ runs c (part4 c v3 v6) Q) := by
  simp only [part4, k0_part4_eq_skeleton]
  unfold k0_part4_skel
  simp only [Prog.lift, Prog.bind_op, Prog.bind_ret, Prog.pure_eq_ret, Prog.bind_assoc]
  simp only [ssy1, rsy1, ssx2, rsx2]
  iintro #He HO HA HB Hxw Hs Hd Ht He2 Hu Hk
  iapply (send_step X W K c _ false 1 (dev6_eq c) (q1 (dS false)) (q1 (dR false)) (vD1 X W false c) (sendDues (sends.drop 4)) due3 (pS1 X W false c) (pR1 X W false c) (aN1 false))
    $$ He HO HA Hs Hd; iintro HO HA
  iapply (load_x X W c) $$ Hxw; iintro Hxw
  iapply (load_w X W c) $$ Hxw; iintro Hxw
  iapply (refill c (dS true) rh1 (fun _ => rfl) (vD2 X W true c)) $$ Ht; iintro Ht
  iapply (send_step X W K c _ true 2 (dev7_eq c) (h1 (dS true)) (h1 (dR true)) (vD2 X W true c) (sendDues (sends.drop 5)) due4 (pS2 X W true c) (pR2 X W true c) (aN2 true))
    $$ He HO HB Ht He2; iintro HO HB
  iapply (load_x X W c) $$ Hxw; iintro Hxw
  iapply (load_w X W c) $$ Hxw; iintro Hxw
  iapply (peek c (dS false) rh1 (fun _ => rfl)) $$ Hu; iintro %v Hu
  iapply (runs_to c (a' := (vD2 X W false c)) rfl)
  iapply Hk $$ HO HA HB Hxw Hu

abbrev part5 (d0 : Dev nD) (v3 v4 : BitVec 32) (v123 : FVec F S512x1024 .fp8e4m3) : Prog (TpuEff nD τ sig (Elt F) Λ₀ .tc) (FVec F S1024x1024 .bf16) :=
  k0_part5 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 d0 v3 v4 v123

/-- The third piece of lane `false` sent; the whole product of lane `true` computed and sent. -/
theorem part5_runs (c : Dev nD) (v3 v4 : BitVec 32) {Q : (FVec F S1024x1024 .bf16) → sProp 𝕄} :
    env X W K ⊢ iprop(ow c (sendDues (sends.drop 5)) -∗ St0 c false 2 -∗ St0 c true 3 -∗ xw X W c -∗ some' c (h1 (dS false)) -∗ some' (peer false c) (h1 (dR false)) -∗ some' c (fS true) -∗ some' (peer true c) (fR true)
      -∗ (ow c (sendDues (sends.drop 7)) -∗ St1 c false 2 -∗ St1 c true 3 -∗ xw X W c -∗ Q (k0_pay10 (xP X c false))) -∗ runs c (part5 c v3 v4 (vD2 X W false c)) Q) := by
  simp only [part5, k0_part5_eq_skeleton]
  unfold k0_part5_skel
  simp only [Prog.lift, Prog.bind_op, Prog.bind_ret, Prog.pure_eq_ret, Prog.bind_assoc]
  simp only [ssy2, rsy2, ssx3, rsx3]
  iintro #He HO HA HB Hxw Hs Hd Ht He2 Hk
  iapply (put c (dS false) rh1 (fun _ => rfl) (vD2 X W false c)) $$ Hs; iintro Hs
  iapply (send_step X W K c _ false 2 (dev8_eq c) (h1 (dS false)) (h1 (dR false)) (vD2 X W false c) (sendDues (sends.drop 6)) due5 (pS2 X W false c) (pR2 X W false c) (aN2 false))
    $$ He HO HA Hs Hd; iintro HO HA
  iapply (load_x X W c) $$ Hxw; iintro Hxw
  iapply (load_w X W c) $$ Hxw; iintro Hxw
  iapply (refill_whole c true (vF X W true c)) $$ Ht; iintro Ht
  iapply (send_step X W K c _ true 3 (dev9_eq c) (fS true) (fR true) (vF X W true c) (sendDues (sends.drop 7)) due6 (pS3 X W true c) (pR3 X W true c) (aN3 true))
    $$ He HO HB Ht He2; iintro HO HB
  iapply (load_x X W c) $$ Hxw; iintro Hxw
  iapply (runs_to c (a' := (k0_pay10 (xP X c false))) rfl)
  iapply Hk $$ HO HA HB Hxw

end Cert.FourWay

end
-- ==== Proof.Body3.lean ====
/-
The body's sixth to eleventh stretches: the whole product of lane `false`, the waits of the diagonal transfers, and the
combined products computed and sent half by half.
-/
module

public import proofs.«01_k».proof.Proof.Body2

@[expose] public section

noncomputable section

namespace Cert.FourWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (W : Dev nD → (cc0_stg1_0 : Ref sig .tc).ty.Contents (Elt F))
variable (K : Dev nD × Cx → ℕ)

/-- A lane's landing buffer on `c` with its partner's diagonal product in. -/
def landed (b : Bool) (c : Dev nD) : sProp 𝕄 := iprop((dR b).view.loc (c : Thread nD τ) ↦[(dR b).view.set]{fullShare} landD X W b c)

theorem landed_intro (b : Bool) (c : Dev nD) :
    payRecv X W c b 0 ⊢ iprop(payRecv X W c b 1 -∗ payRecv X W c b 2 -∗ landed X W b c) := by
  show held c (q0 (dR b)) (vD0 X W b (peer b c)) ⊢ iprop(held c (q1 (dR b)) (vD1 X W b (peer b c)) -∗ held c (h1 (dR b)) (vD2 X W b (peer b c)) -∗ landed X W b c)
  unfold landed landD
  iintro H0 H1 H2
  iapply (join_held c (dR b) (vD0 X W b (peer b c)) (vD1 X W b (peer b c)) (vD2 X W b (peer b c)))
  isplitl [H0]; · iexact H0
  isplitl [H1]; · iexact H1
  iexact H2

/-- A load of a rectangle of it. -/
theorem load_landed (b : Bool) (c : Dev nD) {r : Rect S1024x1024} {α : Type} {hl : (dR b).view.LoadsAt r}
    {k : (r.shape.Idx → Elt F .fp8e4m3) → Prog (TpuEff nD τ sig (Elt F) Λ₀ .tc) α} {Q : α → sProp 𝕄} :
    landed X W b c ⊢ iprop((landed X W b c -∗ runs c (k ((dR b).view.readAt (Elt F) r.toLoadRect (landD X W b c))) Q)
      -∗ runs c (.op (.load (dR b) r hl) k) Q) := by
  have hs : (dR b).view.set = Finset.univ := by cases b <;> exact View.set_whole _
  unfold landed
  iintro H Hk
  iapply (wp_load 𝒱₀ (c : Thread nD τ) none Set.univ (m := dR b) (S := (dR b).view.set) (by rw [hs]; exact Finset.subset_univ _)) $$ H
  iintro H
  iapply Hk
  iexact H

/-- The two products that a combined product adds to: the partners' blocks, and the device's own. -/
abbrev mP (b : Bool) (c : Dev nD) : FVec F S1024x1024 .f32 := k0_pay12 (xP X c b) (wH W c (!b))
abbrev mO (b : Bool) (c : Dev nD) : FVec F S1024x1024 .f32 := k0_pay12 (xO X c) (wH W c b)

abbrev part6 (d0 : Dev nD) (v3 v4 : BitVec 32) (v154 : FVec F S1024x1024 .bf16) : Prog (TpuEff nD τ sig (Elt F) Λ₀ .tc) (FVec F S1024x1024 .f32) :=
  k0_part6 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 d0 v3 v4 v154

/-- The whole product of lane `false` computed and sent; lane `true`'s first piece back. -/
theorem part6_runs (c : Dev nD) (v3 v4 : BitVec 32) {Q : (FVec F S1024x1024 .f32) → sProp 𝕄} :
    env X W K ⊢ iprop(ow c (sendDues (sends.drop 7)) -∗ St0 c false 3 -∗ St1 c true 0 -∗ xw X W c -∗ some' c (fS false) -∗ some' (peer false c) (fR false)
      -∗ (ow c (sendDues (sends.drop 8)) -∗ St1 c false 3 -∗ St2 c true 0 -∗ xw X W c -∗ paySend X W c true 0 -∗ Q (mP X W false c)) -∗ runs c (part6 c v3 v4 (k0_pay10 (xP X c false))) Q) := by
  simp only [part6, k0_part6_eq_skeleton]
  unfold k0_part6_skel
  simp only [Prog.lift, Prog.bind_op, Prog.bind_ret, Prog.pure_eq_ret, Prog.bind_assoc]
  simp only [ssy3, rsy3, ssx0]
  iintro #He HO HA HB Hxw Ht Hd Hk
  iapply (load_w X W c) $$ Hxw; iintro Hxw
  iapply (refill_whole c false (vF X W false c)) $$ Ht; iintro Ht
  iapply (send_step X W K c _ false 3 (dev10_eq c) (fS false) (fR false) (vF X W false c) (sendDues (sends.drop 8)) due7 (pS3 X W false c) (pR3 X W false c) (aN3 false))
    $$ He HO HA Ht Hd; iintro HO HA
  iapply (load_x X W c) $$ Hxw; iintro Hxw
  iapply (load_w X W c) $$ Hxw; iintro Hxw
  iapply (back_step X W K c true 0 (sendDues (sends.drop 8)) (by decide) (aM0 true)) $$ He HO HB; iintro HO HB Hp
  iapply (runs_to c (a' := (mP X W false c)) rfl)
  iapply Hk $$ HO HA HB Hxw Hp

abbrev part7 (d0 : Dev nD) (v3 : BitVec 32) (v175 : FVec F S1024x1024 .f32) : Prog (TpuEff nD τ sig (Elt F) Λ₀ .tc) (FVec F S512x1024 .f32) :=
  k0_part7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v3 v175

/-- Lane `true`'s diagonal transfers waited for. -/
theorem part7_runs (c : Dev nD) (v3 : BitVec 32) {Q : (FVec F S512x1024 .f32) → sProp 𝕄} :
    env X W K ⊢ iprop(ow c (sendDues (sends.drop 8)) -∗ St2 c true 0 -∗ St1 c true 1 -∗ St1 c true 2
      -∗ (ow c (sendDues (sends.drop 8)) -∗ St3 c true 0 -∗ St3 c true 1 -∗ St3 c true 2 -∗ payRecv X W c true 0 -∗ paySend X W c true 1 -∗ payRecv X W c true 1 -∗ paySend X W c true 2 -∗ payRecv X W c true 2 -∗ Q (k0_pay13 (mP X W false c))) -∗ runs c (part7 c v3 (mP X W false c)) Q) := by
  simp only [part7, k0_part7_eq_skeleton]
  unfold k0_part7_skel
  simp only [Prog.lift, Prog.bind_op, Prog.bind_ret, Prog.pure_eq_ret, Prog.bind_assoc]
  simp only [rsx0, ssx1, rsx1, ssx2, rsx2]
  iintro #He HO HA HB HC Hk
  iapply (land_step X W K c true 0 (sendDues (sends.drop 8)) (by decide) (aN0 true)) $$ He HO HA; iintro HO HA Hr0
  iapply (back_step X W K c true 1 (sendDues (sends.drop 8)) (by decide) (aM1 true)) $$ He HO HB; iintro HO HB Hs1
  iapply (land_step X W K c true 1 (sendDues (sends.drop 8)) (by decide) (aN1 true)) $$ He HO HB; iintro HO HB Hr1
  iapply (back_step X W K c true 2 (sendDues (sends.drop 8)) (by decide) (aM2 true)) $$ He HO HC; iintro HO HC Hs2
  iapply (land_step X W K c true 2 (sendDues (sends.drop 8)) (by decide) (aN2 true)) $$ He HO HC; iintro HO HC Hr2
  iapply (runs_to c (a' := (k0_pay13 (mP X W false c))) rfl)
  iapply Hk $$ HO HA HB HC Hr0 Hs1 Hr1 Hs2 Hr2

abbrev part8 (d0 : Dev nD) (v3 v4 : BitVec 32) (v175 : FVec F S1024x1024 .f32) (v206 : FVec F S512x1024 .f32) : Prog (TpuEff nD τ sig (Elt F) Λ₀ .tc) (Σ' (v238 : BitVec 32), BitVec 32) :=
  k0_part8 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 d0 v3 v4 v175 v206

/-- The combined product of lane `false` computed and sent. -/
theorem part8_runs (c : Dev nD) (v3 v4 : BitVec 32) {Q : (Σ' (v238 : BitVec 32), BitVec 32) → sProp 𝕄} :
    env X W K ⊢ iprop(ow c (sendDues (sends.drop 8)) -∗ St0 c false 4 -∗ St0 c false 5 -∗ landed X W true c -∗ some' c (h0 (gS false)) -∗ some' c (h1 (gS false)) -∗ some' (peer false c) (h0 (gR false)) -∗ some' (peer false c) (h1 (gR false))
      -∗ (∀ v z, ow c (sendDues (sends.drop 10)) -∗ St1 c false 4 -∗ St1 c false 5 -∗ landed X W true c -∗ Q ⟨v, z⟩) -∗ runs c (part8 c v3 v4 (mP X W false c) (k0_pay13 (mP X W false c))) Q) := by
  simp only [part8, k0_part8_eq_skeleton]
  unfold k0_part8_skel
  simp only [Prog.lift, Prog.bind_op, Prog.bind_ret, Prog.pure_eq_ret, Prog.bind_assoc]
  simp only [ssy4, rsy4, ssy5, rsy5]
  iintro #He HO HA HB Hl Hs Ht Hd He2 Hk
  iapply (load_landed X W true c) $$ Hl; iintro Hl
  iapply (refill c (gS false) rh0 (fun _ => rfl) (vG0 X W false c)) $$ Hs; iintro Hs
  iapply (send_step X W K c _ false 4 (dev11_eq c) (h0 (gS false)) (h0 (gR false)) (vG0 X W false c) (sendDues (sends.drop 9)) due8 (pS4 X W false c) (pR4 X W false c) (aN4 false))
    $$ He HO HA Hs Hd; iintro HO HA
  iapply (load_landed X W true c) $$ Hl; iintro Hl
  iapply (refill c (gS false) rh1 (fun _ => rfl) (vG1 X W false c)) $$ Ht; iintro Ht
  iapply (send_step X W K c _ false 5 (dev12_eq c) (h1 (gS false)) (h1 (gR false)) (vG1 X W false c) (sendDues (sends.drop 10)) due9 (pS5 X W false c) (pR5 X W false c) (aN5 false))
    $$ He HO HB Ht He2; iintro HO HB
  iapply runs_ret
  iapply Hk $$ %_ %_ HO HA HB Hl

abbrev part9 (d0 : Dev nD) (v4 v z : BitVec 32) : Prog (TpuEff nD τ sig (Elt F) Λ₀ .tc) (FVec F S1024x1024 .f32) :=
  k0_part9 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 d0 v4 v z

/-- The product for lane `true`; lane `false`'s diagonal transfers waited for. -/
theorem part9_runs (c : Dev nD) (v4 v z : BitVec 32) {Q : (FVec F S1024x1024 .f32) → sProp 𝕄} :
    env X W K ⊢ iprop(ow c (sendDues (sends.drop 10)) -∗ St1 c false 0 -∗ St1 c false 1 -∗ xw X W c
      -∗ (ow c (sendDues (sends.drop 10)) -∗ St3 c false 0 -∗ St2 c false 1 -∗ xw X W c -∗ paySend X W c false 0 -∗ payRecv X W c false 0 -∗ paySend X W c false 1 -∗ Q (mP X W true c)) -∗ runs c (part9 c v4 v z) Q) := by
  simp only [part9, k0_part9_eq_skeleton]
  unfold k0_part9_skel
  simp only [Prog.lift, Prog.bind_op, Prog.bind_ret, Prog.pure_eq_ret, Prog.bind_assoc]
  simp only [ssy0, rsy0, ssy1]
  iintro #He HO HA HB Hxw Hk
  iapply (load_x X W c) $$ Hxw; iintro Hxw
  iapply (load_w X W c) $$ Hxw; iintro Hxw
  iapply (back_step X W K c false 0 (sendDues (sends.drop 10)) (by decide) (aM0 false)) $$ He HO HA; iintro HO HA Hs0
  iapply (land_step X W K c false 0 (sendDues (sends.drop 10)) (by decide) (aN0 false)) $$ He HO HA; iintro HO HA Hr0
  iapply (back_step X W K c false 1 (sendDues (sends.drop 10)) (by decide) (aM1 false)) $$ He HO HB; iintro HO HB Hs1
  iapply (runs_to c (a' := (mP X W true c)) rfl)
  iapply Hk $$ HO HA HB Hxw Hs0 Hr0 Hs1

abbrev part10 (d0 : Dev nD) (v3 v4 : BitVec 32) (v245 : FVec F S1024x1024 .f32) : Prog (TpuEff nD τ sig (Elt F) Λ₀ .tc) (PUnit) :=
  k0_part10 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v3 v4 v245

/-- The last of them; the first half of lane `true`'s combined product. -/
theorem part10_runs (c : Dev nD) (v3 v4 : BitVec 32) {Q : (PUnit) → sProp 𝕄} :
    env X W K ⊢ iprop(ow c (sendDues (sends.drop 10)) -∗ St2 c false 1 -∗ St1 c false 2 -∗ payRecv X W c false 0 -∗ some' c (h0 (gS true))
      -∗ (ow c (sendDues (sends.drop 10)) -∗ St3 c false 1 -∗ St3 c false 2 -∗ paySend X W c false 2 -∗ landed X W false c -∗ held c (h0 (gS true)) (vG0 X W true c) -∗ Q ⟨⟩) -∗ runs c (part10 c v3 v4 (mP X W true c)) Q) := by
  simp only [part10, k0_part10_eq_skeleton]
  unfold k0_part10_skel
  simp only [Prog.lift, Prog.bind_op, Prog.bind_ret, Prog.pure_eq_ret, Prog.bind_assoc]
  simp only [rsy1, ssy2, rsy2]
  iintro #He HO HA HB Hr0 Hs Hk
  iapply (land_step X W K c false 1 (sendDues (sends.drop 10)) (by decide) (aN1 false)) $$ He HO HA; iintro HO HA Hr1
  iapply (back_step X W K c false 2 (sendDues (sends.drop 10)) (by decide) (aM2 false)) $$ He HO HB; iintro HO HB Hs2
  iapply (land_step X W K c false 2 (sendDues (sends.drop 10)) (by decide) (aN2 false)) $$ He HO HB; iintro HO HB Hr2
  ihave Hl := (landed_intro X W false c) $$ Hr0 Hr1 Hr2
  iapply (load_landed X W false c) $$ Hl; iintro Hl
  iapply (refill c (gS true) rh0 (fun _ => rfl) (vG0 X W true c)) $$ Hs; iintro Hs
  iapply runs_ret
  iapply Hk $$ HO HA HB Hs2 Hl Hs

abbrev part11 (d0 : Dev nD) (v2 v3 : BitVec 32) (v245 : FVec F S1024x1024 .f32) : Prog (TpuEff nD τ sig (Elt F) Λ₀ .tc) (Σ' (v315 : FVec F S1024x1024 .f32), FVec F S1024x1024 .f32) :=
  k0_part11 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 d0 v2 v3 v245

/-- Lane `true`'s combined product sent; the device's own products. -/
theorem part11_runs (c : Dev nD) (v2 v3 : BitVec 32) {Q : (Σ' (v315 : FVec F S1024x1024 .f32), FVec F S1024x1024 .f32) → sProp 𝕄} :
    env X W K ⊢ iprop(ow c (sendDues (sends.drop 10)) -∗ St0 c true 4 -∗ St0 c true 5 -∗ xw X W c -∗ landed X W false c -∗ held c (h0 (gS true)) (vG0 X W true c) -∗ some' c (h1 (gS true)) -∗ some' (peer true c) (h0 (gR true)) -∗ some' (peer true c) (h1 (gR true))
      -∗ (ow c (sendDues (sends.drop 12)) -∗ St1 c true 4 -∗ St1 c true 5 -∗ xw X W c -∗ landed X W false c -∗ Q ⟨mO X W true c, mO X W false c⟩) -∗ runs c (part11 c v2 v3 (mP X W true c)) Q) := by
  simp only [part11, k0_part11_eq_skeleton]
  unfold k0_part11_skel
  simp only [Prog.lift, Prog.bind_op, Prog.bind_ret, Prog.pure_eq_ret, Prog.bind_assoc]
  simp only [ssx4, rsx4, ssx5, rsx5]
  iintro #He HO HA HB Hxw Hl Hs Ht Hd He2 Hk
  iapply (send_step X W K c _ true 4 (dev13_eq c) (h0 (gS true)) (h0 (gR true)) (vG0 X W true c) (sendDues (sends.drop 11)) due10 (pS4 X W true c) (pR4 X W true c) (aN4 true))
    $$ He HO HA Hs Hd; iintro HO HA
  iapply (load_landed X W false c) $$ Hl; iintro Hl
  iapply (refill c (gS true) rh1 (fun _ => rfl) (vG1 X W true c)) $$ Ht; iintro Ht
  iapply (send_step X W K c _ true 5 (dev14_eq c) (h1 (gS true)) (h1 (gR true)) (vG1 X W true c) (sendDues (sends.drop 12)) due11 (pS5 X W true c) (pR5 X W true c) (aN5 true))
    $$ He HO HB Ht He2; iintro HO HB
  iapply (load_x X W c) $$ Hxw; iintro Hxw
  iapply (load_w X W c) $$ Hxw; iintro Hxw
  iapply (load_x X W c) $$ Hxw; iintro Hxw
  iapply (load_w X W c) $$ Hxw; iintro Hxw
  iapply (runs_to c (a' := ⟨mO X W true c, mO X W false c⟩)
    (show (⟨k0_pay19 (xO X c) (wH W c true), k0_pay20 (xO X c) (wH W c false)⟩ : Σ' (v315 : FVec F S1024x1024 .f32), FVec F S1024x1024 .f32) = _ from rfl))
  iapply Hk $$ HO HA HB Hxw Hl

end Cert.FourWay

end
-- ==== Proof.Body4.lean ====
/-
The body's last stretches: the whole products waited for and added, then the combined products, half by half.
-/
module

public import proofs.«01_k».proof.Proof.Body3

@[expose] public section

noncomputable section

namespace Cert.FourWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (W : Dev nD → (cc0_stg1_0 : Ref sig .tc).ty.Contents (Elt F))
variable (K : Dev nD × Cx → ℕ)

/-- The result's buffer, whole. -/
def ob (c : Dev nD) (f : OC F) : sProp 𝕄 := iprop((c : Thread nD τ).loc cc0_stg2_0 ↦{fullShare} f)

theorem load_o (c : Dev nD) {f : OC F} {r : Rect S1024x2048} {α : Type} {hl : oM.view.LoadsAt r}
    {k : (r.shape.Idx → Elt F .f32) → Prog (TpuEff nD τ sig (Elt F) Λ₀ .tc) α} {Q : α → sProp 𝕄} :
    ob c f ⊢ iprop((ob c f -∗ runs c (k (oM.view.readAt (Elt F) r.toLoadRect f)) Q) -∗ runs c (.op (.load oM r hl) k) Q) := by
  unfold ob
  iintro H Hk
  iapply (wp_load 𝒱₀ (c : Thread nD τ) none Set.univ (m := oM) (Finset.subset_univ _)) $$ H; iintro H
  iapply Hk
  iexact H

theorem store_o (c : Dev nD) {f : OC F} (f' : OC F) {r : Rect S1024x2048} {w : r.shape.Idx → Elt F .f32} {α : Type}
    {hx : (oM.access r).Stores Finset.univ} {hm : (Finset.univ : Finset r.shape.Idx) = Finset.univ ∨ ∀ a, r.stride a = 1}
    (hf : (oM.access r).write (Elt F) f w Finset.univ = f')
    {k : PUnit → Prog (TpuEff nD τ sig (Elt F) Λ₀ .tc) α} {Q : α → sProp 𝕄} :
    ob c f ⊢ iprop((ob c f' -∗ runs c (k ⟨⟩) Q) -∗ runs c (.op (.store oM r w Finset.univ hx hm) k) Q) := by
  subst hf
  unfold ob
  iintro H Hk
  iapply (wp_store 𝒱₀ (c : Thread nD τ) none Set.univ (m := oM) (r := r) (Mk := Finset.univ) (S := Finset.univ) (Finset.subset_univ _)) $$ H; iintro H
  iapply Hk
  iexact H

/-- What has landed, read: a whole product, or a half of a combined one. -/
theorem load_F (b : Bool) (c : Dev nD) {α : Type} {hl : (fR b).view.LoadsAt rAll}
    {k : (S1024x1024.Idx → Elt F .bf16) → Prog (TpuEff nD τ sig (Elt F) Λ₀ .tc) α} {Q : α → sProp 𝕄} :
    payRecv X W c b 3 ⊢ iprop((payRecv X W c b 3 -∗ runs c (k (vF X W b (peer b c))) Q) -∗ runs c (.op (.load (fR b) rAll hl) k) Q) :=
  load_whole c b (vF X W b (peer b c))
theorem load_G0 (b : Bool) (c : Dev nD) {α : Type} {hl : (gR b).view.LoadsAt rh0}
    {k : (S512x1024.Idx → Elt F .bf16) → Prog (TpuEff nD τ sig (Elt F) Λ₀ .tc) α} {Q : α → sProp 𝕄} :
    payRecv X W c b 4 ⊢ iprop((payRecv X W c b 4 -∗ runs c (k (vG0 X W b (peer b c))) Q) -∗ runs c (.op (.load (gR b) rh0 hl) k) Q) :=
  load_held c (gR b) rh0 (fun _ => rfl) (vG0 X W b (peer b c))
theorem load_G1 (b : Bool) (c : Dev nD) {α : Type} {hl : (gR b).view.LoadsAt rh1}
    {k : (S512x1024.Idx → Elt F .bf16) → Prog (TpuEff nD τ sig (Elt F) Λ₀ .tc) α} {Q : α → sProp 𝕄} :
    payRecv X W c b 5 ⊢ iprop((payRecv X W c b 5 -∗ runs c (k (vG1 X W b (peer b c))) Q) -∗ runs c (.op (.load (gR b) rh1 hl) k) Q) :=
  load_held c (gR b) rh1 (fun _ => rfl) (vG1 X W b (peer b c))

/-- The result once lane `true`'s whole product is added, before lane `false`'s. -/
abbrev outH (c : Dev nD) (f : OC F) : OC F :=
  (oM.access rw0).write (Elt F) f (k0_pay21 (k0_pay12 (xO X c) (wH W c true)) (vF X W true (peer true c))) Finset.univ

abbrev part12 (d0 : Dev nD) (v3 v4 : BitVec 32) (v315 v323 : FVec F S1024x1024 .f32) : Prog (TpuEff nD τ sig (Elt F) Λ₀ .tc) (PUnit) :=
  k0_part12 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v3 v4 v315 v323

/-- The whole products waited for and added. -/
theorem part12_runs (c : Dev nD) (v3 v4 : BitVec 32) (f : OC F) {Q : (PUnit) → sProp 𝕄} :
    env X W K ⊢ iprop(ow c (sendDues (sends.drop 12)) -∗ St1 c true 3 -∗ St1 c false 3 -∗ St1 c false 4 -∗ ob c f
      -∗ (ow c (sendDues (sends.drop 12)) -∗ St3 c true 3 -∗ St3 c false 3 -∗ St2 c false 4 -∗ paySend X W c true 3 -∗ payRecv X W c true 3 -∗ paySend X W c false 3 -∗ payRecv X W c false 3 -∗ paySend X W c false 4 -∗ ob c (out0 X W c f) -∗ Q ⟨⟩) -∗ runs c (part12 c v3 v4 (mO X W true c) (mO X W false c)) Q) := by
  simp only [part12, k0_part12_eq_skeleton]
  unfold k0_part12_skel
  simp only [Prog.lift, Prog.bind_op, Prog.bind_ret, Prog.pure_eq_ret, Prog.bind_assoc]
  simp only [ssx3, rsx3, ssy3, rsy3, ssy4]
  iintro #He HO HA HB HC Ho Hk
  iapply (back_step X W K c true 3 (sendDues (sends.drop 12)) (by decide) (aM3 true)) $$ He HO HA; iintro HO HA Hsa
  iapply (land_step X W K c true 3 (sendDues (sends.drop 12)) (by decide) (aN3 true)) $$ He HO HA; iintro HO HA Hra
  iapply (load_F X W true c) $$ Hra; iintro Hra
  iapply (load_o c) $$ Ho; iintro Ho
  iapply (store_o c (outH X W c f) rfl) $$ Ho; iintro Ho
  iapply (back_step X W K c false 3 (sendDues (sends.drop 12)) (by decide) (aM3 false)) $$ He HO HB; iintro HO HB Hsb
  iapply (land_step X W K c false 3 (sendDues (sends.drop 12)) (by decide) (aN3 false)) $$ He HO HB; iintro HO HB Hrb
  iapply (load_F X W false c) $$ Hrb; iintro Hrb
  iapply (load_o c) $$ Ho; iintro Ho
  iapply (store_o c (out0 X W c f) rfl) $$ Ho; iintro Ho
  iapply (back_step X W K c false 4 (sendDues (sends.drop 12)) (by decide) (aM4 false)) $$ He HO HC; iintro HO HC Hsc
  iapply runs_ret
  iapply Hk $$ HO HA HB HC Hsa Hra Hsb Hrb Hsc Ho

abbrev part13 (d0 : Dev nD) (v3 v4 : BitVec 32) : Prog (TpuEff nD τ sig (Elt F) Λ₀ .tc) (FVec F S512x1024 .f32) :=
  k0_part13 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v3 v4

/-- The first half of lane `false`'s combined product added; lane `true`'s waited for. -/
theorem part13_runs (c : Dev nD) (v3 v4 : BitVec 32) (f : OC F) {Q : (FVec F S512x1024 .f32) → sProp 𝕄} :
    env X W K ⊢ iprop(ow c (sendDues (sends.drop 12)) -∗ St2 c false 4 -∗ St1 c true 4 -∗ ob c f
      -∗ (ow c (sendDues (sends.drop 12)) -∗ St3 c false 4 -∗ St3 c true 4 -∗ payRecv X W c false 4 -∗ paySend X W c true 4 -∗ payRecv X W c true 4 -∗ ob c (out1 X W c f) -∗ Q (k0_pay24 (oM.view.readAt (Elt F) ro01.toLoadRect (out1 X W c f)))) -∗ runs c (part13 c v3 v4) Q) := by
  simp only [part13, k0_part13_eq_skeleton]
  unfold k0_part13_skel
  simp only [Prog.lift, Prog.bind_op, Prog.bind_ret, Prog.pure_eq_ret, Prog.bind_assoc]
  simp only [rsy4, ssx4, rsx4]
  iintro #He HO HA HB Ho Hk
  iapply (land_step X W K c false 4 (sendDues (sends.drop 12)) (by decide) (aN4 false)) $$ He HO HA; iintro HO HA Hra
  iapply (load_o c) $$ Ho; iintro Ho
  iapply (load_G0 X W false c) $$ Hra; iintro Hra
  iapply (load_o c) $$ Ho; iintro Ho
  iapply (store_o c (out1 X W c f) rfl) $$ Ho; iintro Ho
  iapply (back_step X W K c true 4 (sendDues (sends.drop 12)) (by decide) (aM4 true)) $$ He HO HB; iintro HO HB Hsb
  iapply (land_step X W K c true 4 (sendDues (sends.drop 12)) (by decide) (aN4 true)) $$ He HO HB; iintro HO HB Hrb
  iapply (load_o c) $$ Ho; iintro Ho
  iapply (runs_to c (a' := (k0_pay24 (oM.view.readAt (Elt F) ro01.toLoadRect (out1 X W c f)))) rfl)
  iapply Hk $$ HO HA HB Hra Hsb Hrb Ho

abbrev part14 (d0 : Dev nD) (v4 : BitVec 32) (v371 : FVec F S512x1024 .f32) : Prog (TpuEff nD τ sig (Elt F) Λ₀ .tc) (PUnit) :=
  k0_part14 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v4 v371

/-- It added; the second half of lane `false`'s waited for and added. -/
theorem part14_runs (c : Dev nD) (v4 : BitVec 32) (f : OC F) {Q : (PUnit) → sProp 𝕄} :
    env X W K ⊢ iprop(ow c (sendDues (sends.drop 12)) -∗ payRecv X W c true 4 -∗ St1 c false 5 -∗ St1 c true 5 -∗ ob c f
      -∗ (ow c (sendDues (sends.drop 12)) -∗ payRecv X W c true 4 -∗ St3 c false 5 -∗ St2 c true 5 -∗ paySend X W c false 5 -∗ payRecv X W c false 5 -∗ paySend X W c true 5 -∗ ob c (out3 X W c (out2 X W c f)) -∗ Q ⟨⟩) -∗ runs c (part14 c v4 (k0_pay24 (oM.view.readAt (Elt F) ro01.toLoadRect f))) Q) := by
  simp only [part14, k0_part14_eq_skeleton]
  unfold k0_part14_skel
  simp only [Prog.lift, Prog.bind_op, Prog.bind_ret, Prog.pure_eq_ret, Prog.bind_assoc]
  simp only [ssy5, rsy5, ssx5]
  iintro #He HO Hr HA HB Ho Hk
  iapply (load_G0 X W true c) $$ Hr; iintro Hr
  iapply (load_o c) $$ Ho; iintro Ho
  iapply (store_o c (out2 X W c f) rfl) $$ Ho; iintro Ho
  iapply (back_step X W K c false 5 (sendDues (sends.drop 12)) (by decide) (aM5 false)) $$ He HO HA; iintro HO HA Hsa
  iapply (land_step X W K c false 5 (sendDues (sends.drop 12)) (by decide) (aN5 false)) $$ He HO HA; iintro HO HA Hra
  iapply (load_o c) $$ Ho; iintro Ho
  iapply (load_G1 X W false c) $$ Hra; iintro Hra
  iapply (load_o c) $$ Ho; iintro Ho
  iapply (store_o c (out3 X W c (out2 X W c f)) rfl) $$ Ho; iintro Ho
  iapply (back_step X W K c true 5 (sendDues (sends.drop 12)) (by decide) (aM5 true)) $$ He HO HB; iintro HO HB Hsb
  iapply runs_ret
  iapply Hk $$ HO Hr HA HB Hsa Hra Hsb Ho

end Cert.FourWay

end
-- ==== Proof.Body5.lean ====
/-
The whole body at a symbolic device.
-/
module

public import proofs.«01_k».proof.Proof.Body4

@[expose] public section

noncomputable section

namespace Cert.FourWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (W : Dev nD → (cc0_stg1_0 : Ref sig .tc).ty.Contents (Elt F))
variable (K : Dev nD × Cx → ℕ)

/-- A lane's six buffers, whole. -/
def scr (b : Bool) (c : Dev nD) : sProp 𝕄 :=
  iprop(some' (F := F) c (dS b) ∗ some' (F := F) c (dR b) ∗ some' (F := F) c (fS b) ∗ some' (F := F) c (fR b) ∗ some' (F := F) c (gS b) ∗ some' (F := F) c (gR b))

/-- Cut into the pieces that travel. -/
theorem scr_cut (b : Bool) (c : Dev nD) : (scr (F := F) b c : sProp 𝕄)
    ⊢ iprop((some' c (q0 (dS b)) ∗ some' c (q1 (dS b)) ∗ some' c (h1 (dS b)) ∗ some' c (fS b) ∗ some' c (h0 (gS b)) ∗ some' c (h1 (gS b))) ∗ landing b c) := by
  unfold scr landing
  iintro ⟨H1, H2, H3, H4, H5, H6⟩
  ihave H1 := (cut_q c (dS b)) $$ H1
  ihave H2 := (cut_q c (dR b)) $$ H2
  ihave H5 := (cut_h c (gS b)) $$ H5
  ihave H6 := (cut_h c (gR b)) $$ H6
  icases H1 with ⟨H1a, H1b, H1c⟩
  icases H2 with ⟨H2a, H2b, H2c⟩
  icases H5 with ⟨H5a, H5b⟩
  icases H6 with ⟨H6a, H6b⟩
  iframe

/-- The pieces back, sent and landed: the buffers again. -/
theorem scr_join (b : Bool) (c : Dev nD) :
    iprop((paySend X W c b 0 ∗ paySend X W c b 1 ∗ paySend X W c b 2 ∗ paySend X W c b 3 ∗ paySend X W c b 4 ∗ paySend X W c b 5)
      ∗ landed X W b c ∗ payRecv X W c b 3 ∗ payRecv X W c b 4 ∗ payRecv X W c b 5) ⊢ (scr (F := F) b c : sProp 𝕄) := by
  unfold scr
  iintro ⟨⟨S0, S1, S2, S3, S4, S5⟩, L, R3, R4, R5⟩
  isplitl [S0 S1 S2]
  · iapply (join_q c (dS b))
    isplitl [S0]; · iapply (show paySend X W c b 0 ⊢ _ from held_some c (q0 (dS b)) (vD0 X W b c)) $$ S0
    isplitl [S1]; · iapply (show paySend X W c b 1 ⊢ _ from held_some c (q1 (dS b)) (vD1 X W b c)) $$ S1
    iapply (show paySend X W c b 2 ⊢ _ from held_some c (h1 (dS b)) (vD2 X W b c)) $$ S2
  isplitl [L]
  · unfold landed some'; iexists _; iexact L
  isplitl [S3]; · iapply (show paySend X W c b 3 ⊢ _ from held_some c (fS b) (vF X W b c)) $$ S3
  isplitl [R3]; · iapply (show payRecv X W c b 3 ⊢ _ from held_some c (fR b) (vF X W b (peer b c))) $$ R3
  isplitl [S4 S5]
  · iapply (join_h c (gS b))
    isplitl [S4]; · iapply (show paySend X W c b 4 ⊢ _ from held_some c (h0 (gS b)) (vG0 X W b c)) $$ S4
    iapply (show paySend X W c b 5 ⊢ _ from held_some c (h1 (gS b)) (vG1 X W b c)) $$ S5
  iapply (join_h c (gR b))
  isplitl [R4]; · iapply (show payRecv X W c b 4 ⊢ _ from held_some c (h0 (gR b)) (vG0 X W b (peer b c))) $$ R4
  iapply (show payRecv X W c b 5 ⊢ _ from held_some c (h1 (gR b)) (vG1 X W b (peer b c))) $$ R5

/-- All twelve transfers' stages on a device. -/
def lane (S : Bool → Fin 6 → sProp 𝕄) (b : Bool) : sProp 𝕄 := iprop(S b 0 ∗ S b 1 ∗ S b 2 ∗ S b 3 ∗ S b 4 ∗ S b 5)

abbrev body : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15

/-- What the kernel leaves in the result's buffer that held `f`. -/
abbrev outOf (c : Dev nD) (f : OC F) : OC F := out4 X W c (out3 X W c (out2 X W c (out1 X W c (out0 X W c f))))

/-- The body: the signals, tokens and credits of a device's start, its buffers, all twelve transfers not started; at the
    end nothing is owed, every semaphore is closed, and the result's buffer holds the result. -/
theorem body_runs (c : Dev nD) (f : OC F) {Q : PUnit → sProp 𝕄} :
    env X W K ⊢ iprop(ow c dues -∗ dutyTok ER (barCell (peer true c)) 0 true -∗ dutyTok ER (barCell (peer false c)) 0 false
      -∗ cred (tallyAt (barCell c) () 2) -∗ atPos ER (barCell c) 0 ∅ 0 -∗ lane (St0 c) true -∗ lane (St0 c) false
      -∗ scr true c -∗ scr false c -∗ xw X W c -∗ ob c f
      -∗ (ow c (sendDues (sends.drop 12)) -∗ semVal (barCell c) 0 -∗ lane (St3 c) true -∗ lane (St3 c) false -∗ scr true c -∗ scr false c -∗ xw X W c
          -∗ ob c (outOf X W c f) -∗ Q ⟨⟩)
      -∗ runs c body Q) := by
  simp only [body, cc0_body_eq_skeleton]
  unfold cc0_body_skel
  simp only [Prog.lift, Prog.bind_op, Prog.bind_ret, Prog.pure_eq_ret, Prog.bind_assoc]
  simp only [rsx5]
  unfold lane
  iintro #He HO Hta Htb Hc Hat ⟨A0, A1, A2, A3, A4, A5⟩ ⟨B0, B1, B2, B3, B4, B5⟩ Ha Hb Hxw Ho Hk
  ihave Ha := (scr_cut true c) $$ Ha
  ihave Hb := (scr_cut false c) $$ Hb
  icases Ha with ⟨⟨Sa0, Sa1, Sa2, Sa3, Sa4, Sa5⟩, Hla⟩
  icases Hb with ⟨⟨Sb0, Sb1, Sb2, Sb3, Sb4, Sb5⟩, Hlb⟩
  unfold runs
  rw [wp_bind]
  iapply (part1_runs X W K c ) $$ He HO Hta Htb Hla Hlb Hc Hat Hxw Sa0; iintro %v2 %v3 %v4 %v6 HO Hz Hla Hlb Hxw Sa0
  unfold landing
  icases Hla with ⟨Da0, Da1, Da2, Da3, Da4, Da5⟩
  icases Hlb with ⟨Db0, Db1, Db2, Db3, Db4, Db5⟩
  rw [wp_bind]
  iapply (part2_runs X W K c v4 v6) $$ He HO A0 B0 Hxw Sa0 Sb0 Da0 Db0; iintro HO A0 B0 Hxw
  rw [wp_bind]
  iapply (part3_runs X W K c v3 v4 v6) $$ He HO A1 Hxw Sa1 Sb1 Da1; iintro HO A1 Hxw Sb1
  rw [wp_bind]
  iapply (part4_runs X W K c v3 v6) $$ He HO B1 A2 Hxw Sb1 Db1 Sa2 Da2 Sb2; iintro HO B1 A2 Hxw Sb2
  rw [wp_bind]
  iapply (part5_runs X W K c v3 v4) $$ He HO B2 A3 Hxw Sb2 Db2 Sa3 Da3; iintro HO B2 A3 Hxw
  rw [wp_bind]
  iapply (part6_runs X W K c v3 v4) $$ He HO B3 A0 Hxw Sb3 Db3; iintro HO B3 A0 Hxw Pa0
  rw [wp_bind]
  iapply (part7_runs X W K c v3) $$ He HO A0 A1 A2; iintro HO A0 A1 A2 Ra0 Pa1 Ra1 Pa2 Ra2
  ihave La := (landed_intro X W true c) $$ Ra0 Ra1 Ra2
  rw [wp_bind]
  iapply (part8_runs X W K c v3 v4) $$ He HO B4 B5 La Sb4 Sb5 Db4 Db5; iintro %v %z HO B4 B5 La
  rw [wp_bind]
  iapply (part9_runs X W K c v4 v z) $$ He HO B0 B1 Hxw; iintro HO B0 B1 Hxw Pb0 Rb0 Pb1
  rw [wp_bind]
  iapply (part10_runs X W K c v3 v4) $$ He HO B1 B2 Rb0 Sa4; iintro HO B1 B2 Pb2 Lb Sa4
  rw [wp_bind]
  iapply (part11_runs X W K c v2 v3) $$ He HO A4 A5 Hxw Lb Sa4 Sa5 Da4 Da5; iintro HO A4 A5 Hxw Lb
  rw [wp_bind]
  iapply (part12_runs X W K c v3 v4 f) $$ He HO A3 B3 B4 Ho; iintro HO A3 B3 B4 Pa3 Ra3 Pb3 Rb3 Pb4 Ho
  rw [wp_bind]
  iapply (part13_runs X W K c v3 v4 _) $$ He HO B4 A4 Ho; iintro HO B4 A4 Rb4 Pa4 Ra4 Ho
  rw [wp_bind]
  iapply (part14_runs X W K c v4 _) $$ He HO Ra4 B5 A5 Ho; iintro HO Ra4 B5 A5 Pb5 Rb5 Pa5 Ho
  iapply (land_step X W K c true 5 (sendDues (sends.drop 12)) (by decide) (aN5 true)) $$ He HO A5; iintro HO A5 Ra5
  iapply (load_o c) $$ Ho; iintro Ho
  iapply (load_G1 X W true c) $$ Ra5; iintro Ra5
  iapply (load_o c) $$ Ho; iintro Ho
  iapply (store_o c (outOf X W c f) rfl) $$ Ho; iintro Ho
  iapply runs_ret
  iapply Hk $$ HO Hz [A0 A1 A2 A3 A4 A5] [B0 B1 B2 B3 B4 B5] [Pa0 Pa1 Pa2 Pa3 Pa4 Pa5 La Ra3 Ra4 Ra5] [Pb0 Pb1 Pb2 Pb3 Pb4 Pb5 Lb Rb3 Rb4 Rb5] Hxw Ho
  · iframe
  · iframe
  · iapply (scr_join X W true c); iframe
  · iapply (scr_join X W false c); iframe

end Cert.FourWay

end
-- ==== Proof.Launch.lean ====
/-
The launch: the cells' invariants allocated, the duty tokens dealt to the devices that pay them, the launch credit read
off what the devices owe, and the run of @main over any float values.
-/
module

public import proofs.«01_k».proof.Proof.Body5

@[expose] public section

noncomputable section

namespace Cert.FourWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → (cc0_stg0_0 : Ref sig .tc).ty.Contents (Elt F)) (W : Dev nD → (cc0_stg1_0 : Ref sig .tc).ty.Contents (Elt F))

/-! ## Conjunctions over the transfers -/

/-- The names of the transfers' semaphores, and of the duty tokens of a device's own cells. -/
abbrev Kx : Type := Bool × Bool × Fin 6
abbrev Tx : Type := Bool ⊕ Kx

theorem bigSep_lanes (S : Bool → Fin 6 → sProp 𝕄) :
    bigSep Finset.univ (fun x : Bool × Fin 6 => S x.1 x.2) = iprop(lane S true ∗ lane S false) := by
  rw [bigSep_univ_prod, bigSep_univ_eq_bigSepL [true, false] (by decide) (by decide)]
  simp only [fun b => bigSep_univ_eq_bigSepL [0, 1, 2, 3, 4, 5] (by decide) (by decide) (fun i : Fin 6 => S b i)]
  rfl

theorem bigSep_kx (Φ : Kx → sProp 𝕄) :
    bigSep Finset.univ Φ = iprop(bigSep Finset.univ (fun x : Bool × Fin 6 => Φ (false, x.1, x.2)) ∗ bigSep Finset.univ (fun x : Bool × Fin 6 => Φ (true, x.1, x.2))) := by
  rw [bigSep_univ_prod, bigSep_univ_eq_bigSepL [false, true] (by decide) (by decide)]
  rfl

theorem bigSep_cx (Φ : Cx → sProp 𝕄) : bigSep Finset.univ Φ = iprop(Φ (.inl ()) ∗ bigSep Finset.univ fun k : Kx => Φ (.inr k)) := by
  rw [bigSep_univ_sum, bigSep_univ_of_subsingleton ()]
  rfl

theorem bigSep_tx (Φ : Tx → sProp 𝕄) :
    bigSep Finset.univ Φ = iprop((Φ (.inl true) ∗ Φ (.inl false)) ∗ bigSep Finset.univ fun k : Kx => Φ (.inr k)) := by
  rw [bigSep_univ_sum, bigSep_univ_eq_bigSepL [true, false] (by decide) (by decide)]
  rfl

/-! ## The launch element -/

/-- The kernel's own semaphores: every transfer's, at its sender and at its receiver. -/
abbrev osem : Kx → SemLoc sig := fun k => csem (.inr k)
theorem ownSemFacts : Pipeline.OwnSemFacts cfg0.spec osem := by decide

def theCells : Finset (GSem nD τ sig) := Finset.univ.map ⟨kcell, kcell_injective⟩

/-- A device's own cells' duty tokens as minted: its barrier's two, and each transfer's at its sender and its receiver. -/
def tok (x : Dev nD × Tx) : GSem nD τ sig × ℕ × Bool := match x.2 with
  | .inl b => (barCell x.1, 0, b)
  | .inr k => (kcell (x.1, .inr k), 0, false)
theorem tok_injective : Function.Injective tok := by
  rintro ⟨c, j⟩ ⟨c', j'⟩ h
  have h1 : c = c' := by
    have := congrArg (fun x : GSem nD τ sig × ℕ × Bool => x.1.1.1) h
    rcases j with b | k <;> rcases j' with b' | k' <;> exact this
  subst h1
  rcases j with b | k <;> rcases j' with b' | k'
  · have : b = b' := congrArg (fun x : GSem nD τ sig × ℕ × Bool => x.2.2) h
    rw [this]
  · have : csem (.inl ()) = csem (.inr k') := congrArg (fun x : GSem nD τ sig × ℕ × Bool => x.1.2) h
    exact absurd (csem_injective this) (by simp)
  · have : csem (.inr k) = csem (.inl ()) := congrArg (fun x : GSem nD τ sig × ℕ × Bool => x.1.2) h
    exact absurd (csem_injective this) (by simp)
  · have : csem (.inr k) = csem (.inr k') := congrArg (fun x : GSem nD τ sig × ℕ × Bool => x.1.2) h
    rw [Sum.inr_injective (csem_injective this)]
def theToks : Finset (GSem nD τ sig × ℕ × Bool) := Finset.univ.map ⟨tok, tok_injective⟩

def u₀ : UU :=
  (initOf (Pipeline.cells cfgs cellOf_inj) (Pipeline.launchToks cfgs cellOf_inj), initOf theCells theToks)

/-- A token, held. -/
abbrev holds (x : GSem nD τ sig × ℕ × Bool) : sProp 𝕄 := dutyTok ER x.1 x.2.1 x.2.2

/-- What the launch element deals device `c`. -/
def G (c : Dev nD) : sProp 𝕄 :=
  iprop((bigSep Finset.univ fun k : Cx => roundState ER (Rd X W) (kcell (c, k)) 0)
    ∗ (bigSep Finset.univ fun k : Cx => iprop(atPos ER (kcell (c, k)) 0 ∅ 0 ∗ reached ER (kcell (c, k)) 0))
    ∗ bigSep Finset.univ fun j : Tx => holds (tok (c, j)))

theorem fund_cells : BI.own (ER (initOf theCells theToks)) ⊢ (|==> bigSep Finset.univ (G X W) : sProp 𝕄) := by
  have hX (Φ : GSem nD τ sig → sProp 𝕄) : bigSep theCells Φ = bigSep Finset.univ fun c : Dev nD => bigSep Finset.univ fun k : Cx => Φ (kcell (c, k)) := by
    unfold theCells; rw [bigSep_map, bigSep_univ_prod]; rfl
  have hT : bigSep theToks (fun x => (holds x : sProp 𝕄)) = bigSep Finset.univ fun c : Dev nD => bigSep Finset.univ fun j : Tx => holds (tok (c, j)) := by
    unfold theToks; rw [bigSep_map, bigSep_univ_prod]; rfl
  iintro HX
  imod (Rounds.fund ER (Rd X W) theCells theToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cx => semVal (kcell (c, k)) 0 : sProp 𝕄) := by
  rw [unscopedSems0_eq, bigSep_cx]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : Cx => iprop(∃ κ : ℕ, cellInv ER (Rd X W) κ (kcell (c, k))))
          ∗ (bigSep Finset.univ fun k : Cx => iprop(atPos ER (kcell (c, k)) 0 ∅ 0 ∗ reached ER (kcell (c, k)) 0))
          ∗ bigSep Finset.univ fun j : Tx => holds (tok (c, j))) := by
  unfold G
  iintro ⟨Hos, Hus, Hst, Hat, Htok⟩
  ihave Hv := (sems0_eq (F := F) c) $$ [Hos Hus]
  · isplitl [Hos] <;> iassumption
  imod (show iprop((bigSep Finset.univ fun k : Cx => semVal (kcell (c, k)) 0) ∗ bigSep Finset.univ fun k : Cx => roundState ER (Rd X W) (kcell (c, k)) 0)
      ⊢ (|={Set.univ}=> bigSep Finset.univ fun k : Cx => iprop(∃ κ : ℕ, cellInv ER (Rd X W) κ (kcell (c, k))) : sProp 𝕄) from by
        rw [← bigSep_sep']
        exact (bigSep_mono fun k _ => (Rounds.body_intro ER (Rd X W) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- Whose token a device is dealt: a barrier's and a receiver's is its partner's, a sender's its own. -/
def dealt : Dev nD × Tx → Dev nD × Tx
  | (c, .inl b) => (peer b c, .inl b)
  | (c, .inr (false, k)) => (c, .inr (false, k))
  | (c, .inr (true, b, i)) => (peer b c, .inr (true, b, i))
theorem dealt_dealt (x : Dev nD × Tx) : dealt (dealt x) = x := by
  rcases x with ⟨c, b | ⟨_ | _, b, i⟩⟩ <;> simp [dealt, peer_peer]
def dealtE : Dev nD × Tx ≃ Dev nD × Tx := ⟨dealt, dealt, dealt_dealt, dealt_dealt⟩

/-- What stays with device `c`: its positions, and the tokens of the duties it pays. -/
def linear (c : Dev nD) : sProp 𝕄 :=
  iprop((bigSep Finset.univ fun k : Cx => atPos ER (kcell (c, k)) 0 ∅ 0) ∗ bigSep Finset.univ fun j : Tx => holds (tok (dealt (c, j))))

theorem toks_around : (bigSep Finset.univ fun c : Dev nD => bigSep Finset.univ fun j : Tx => (holds (tok (c, j)) : sProp 𝕄))
    = bigSep Finset.univ fun c : Dev nD => bigSep Finset.univ fun j : Tx => holds (tok (dealt (c, j))) := by
  rw [← bigSep_univ_prod (fun x : Dev nD × Tx => (holds (tok x) : sProp 𝕄)), bigSep_univ_equiv dealtE (fun x : Dev nD × Tx => (holds (tok x) : sProp 𝕄)),
    bigSep_univ_prod]
  rfl

/-- What the global step makes of it: some names, every cell's invariant, and what stays with `c`. -/
def G' (c : Dev nD) : sProp 𝕄 := iprop(∃ K, records X W K ∗ linear c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cx => iprop(∃ κ : ℕ, cellInv ER (Rd X W) κ (kcell (c, k))))
          ∗ (bigSep Finset.univ fun k : Cx => iprop(atPos ER (kcell (c, k)) 0 ∅ 0 ∗ reached ER (kcell (c, k)) 0))
          ∗ bigSep Finset.univ fun j : Tx => holds (tok (c, j))) : sProp 𝕄)
      ⊢ bigSep Finset.univ (G' X W) := by
  rw [bigSep_sep', bigSep_sep', ← bigSep_univ_prod (fun ck : Dev nD × Cx => iprop(∃ κ : ℕ, cellInv ER (Rd X W) κ (kcell ck))),
    bigSep_congr (s := Finset.univ) (fun (c : Dev nD) _ => bigSep_sep' Finset.univ (fun k : Cx => (atPos ER (kcell (c, k)) 0 ∅ 0 : sProp 𝕄)) (fun k => reached ER (kcell (c, k)) 0)),
    bigSep_sep', ← bigSep_univ_prod (fun ck : Dev nD × Cx => (reached ER (kcell ck) 0 : sProp 𝕄)), toks_around]
  iintro ⟨HI, ⟨Hat, #HR⟩, Htok⟩
  ihave HK := (BI.bigSep_exists_pi Finset.univ (fun (ck : Dev nD × Cx) (κ : ℕ) => (cellInv ER (Rd X W) κ (kcell ck) : sProp 𝕄))) $$ HI
  icases HK with ⟨%K, #HI⟩
  iapply (bigSep_with_persistent (R := records X W K) (Φ := linear) (Ψ := G' X W) fun c _ => by
    unfold G'; iintro ⟨H1, H2⟩; iexists K; isplitl [H1] <;> iassumption)
  isplitr
  · unfold records; rw [bigSep_sep']
    isplitl; · iexact HI
    iexact HR
  · unfold linear; rw [bigSep_sep']
    isplitl [Hat]; · iexact Hat
    iexact Htok

/-- Every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## The launch credit -/

/-- What device `d` owes at the start. -/
abbrev O₀ (d : Dev nD) : CellTallies nD τ sig Unit := owedL d dues

/-- What the devices together owe semaphore `sm` of device `c`: each due on it, once, from the lane's partner. -/
theorem owed_sum (c : Dev nD) (sm : SemLoc sig) (l : List Due) :
    ∑ d : Dev nD, owedL d l ((c : Thread nD τ), sm) () = (l.map fun e => if sm = e.2.1 then e.2.2 else 0).sum := by
  induction l with
  | nil => exact Finset.sum_eq_zero fun _ _ => rfl
  | cons e l ih =>
    have hone : ∀ d : Dev nD, tallyAt (((peer e.1 d : Dev nD) : Thread nD τ), e.2.1) () e.2.2 ((c : Thread nD τ), sm) ()
        = if d = peer e.1 c then (if sm = e.2.1 then e.2.2 else 0) else 0 := by
      intro d
      rw [tallyAt_apply]
      by_cases h1 : d = peer e.1 c
      · subst h1
        rw [if_pos rfl, peer_peer]
        by_cases h2 : sm = e.2.1
        · rw [if_pos h2, if_pos ⟨by rw [h2], rfl⟩]
        · rw [if_neg h2, if_neg fun h => h2 (congrArg Prod.snd h.1)]
      · rw [if_neg h1, if_neg fun h => h1 (by
          have h3 : c = peer e.1 d := congrArg (fun g : GSem nD τ sig => g.1.1) h.1
          rw [h3, peer_peer])]
    rw [List.map_cons, List.sum_cons, ← ih, Nat.add_comm]
    rw [← Finset.sum_ite_eq' Finset.univ (peer e.1 c) (fun _ => if sm = e.2.1 then e.2.2 else 0) |>.trans (if_pos (Finset.mem_univ _)),
      ← Finset.sum_add_distrib]
    exact Finset.sum_congr rfl fun d _ => by
      show (owedL d l + tallyAt (((peer e.1 d : Dev nD) : Thread nD τ), e.2.1) () e.2.2 : CellTallies nD τ sig Unit) ((c : Thread nD τ), sm) () = _
      rw [Pi.add_apply, Finsupp.add_apply, hone]

/-- The semaphores the launch credit is held for, with the units due on each. -/
def creditSem : Unit ⊕ (Bool × Fin 6) → SemLoc sig
  | .inl _ => .reg barS
  | .inr x => .dma (sR x.1 x.2)
def creditAmt : Unit ⊕ (Bool × Fin 6) → ℕ
  | .inl _ => 2
  | .inr x => amt x.1 x.2
theorem creditSem_injective : Function.Injective creditSem := by decide

theorem credit_amt (x : Unit ⊕ (Bool × Fin 6)) : (dues.map fun e => if creditSem x = e.2.1 then e.2.2 else 0).sum = creditAmt x := by
  rcases x with _ | ⟨b, i⟩
  · rfl
  · cases b <;> fin_cases i <;> simp [dues, sends, creditSem, creditAmt]

theorem launch_at (c : Dev nD) (x : Unit ⊕ (Bool × Fin 6)) :
    tallyOn ((c : Thread nD τ), creditSem x) (launchCredit (Pipeline.owing O₀) 0 ((c : Thread nD τ), creditSem x))
      = (tallyAt ((c : Thread nD τ), creditSem x) () (creditAmt x) : CellTallies nD τ sig Unit) := by
  unfold tallyAt; refine congrArg _ (Finsupp.ext fun u => ?_); cases u
  rw [Pipeline.launchCredit_owing, Finsupp.single_eq_same, owed_sum, credit_amt]

theorem creds (c : Dev nD) :
    (Pipeline.launchCred O₀ c : sProp 𝕄)
      ⊢ iprop(cred (tallyAt (barCell c) () 2) ∗ bigSep Finset.univ fun x : Bool × Fin 6 => cred (tallyAt (rCell c x.1 x.2) () (amt x.1 x.2))) := by
  unfold Pipeline.launchCred
  refine (bigSep_subset (Finset.subset_univ (Finset.univ.map ⟨creditSem, creditSem_injective⟩))).trans ?_
  rw [bigSep_map, bigSep_congr (s := Finset.univ) (Ψ := fun x => (cred (tallyAt ((c : Thread nD τ), creditSem x) () (creditAmt x)) : sProp 𝕄)) (fun x _ => by
    show cred (tallyOn ((c : Thread nD τ), creditSem x) (launchCredit (Pipeline.owing O₀) 0 ((c : Thread nD τ), creditSem x))) = _
    rw [launch_at c x]), bigSep_univ_sum, bigSep_univ_of_subsingleton ()]
  exact BI.Entails.refl _

/-- What a device's body starts from, besides its buffers. -/
def start (c : Dev nD) : sProp 𝕄 :=
  iprop((dutyTok ER (barCell (peer true c)) 0 true ∗ dutyTok ER (barCell (peer false c)) 0 false)
    ∗ cred (tallyAt (barCell c) () 2) ∗ atPos ER (barCell c) 0 ∅ 0 ∗ lane (St0 c) true ∗ lane (St0 c) false)

theorem start_intro (c : Dev nD) : iprop(linear c ∗ Pipeline.launchCred O₀ c) ⊢ (start c : sProp 𝕄) := by
  unfold linear start
  rw [bigSep_cx, bigSep_kx, bigSep_tx, bigSep_kx, ← bigSep_lanes]
  unfold St0
  simp only [bigSep_sep']
  iintro ⟨⟨⟨Hb, Hs, Hr⟩, Ht, Hts, Htr⟩, Hc⟩
  ihave Hc := (creds (F := F) c) $$ Hc
  icases Hc with ⟨Hcb, Hcr⟩
  isplitl [Ht]; · iexact Ht
  isplitl [Hcb]; · iexact Hcb
  isplitl [Hb]; · iexact Hb
  isplitl [Hts Htr]
  · isplitl [Hts]; · iexact Hts
    iexact Htr
  isplitl [Hs]; · iexact Hs
  isplitl [Hr]; · iexact Hr
  iexact Hcr

/-- The transfers all done: the kernel's own semaphores are at zero. -/
theorem own_intro (c : Dev nD) : iprop(lane (St3 c) true ∗ lane (St3 c) false)
    ⊢ (Pipeline.ownSems0 (Ix := Unit) (Name := ℕ) (U := UU) (Lvl := ℕ) (Val := Elt F) (τ := τ) osem c : sProp 𝕄) := by
  rw [← bigSep_lanes]
  unfold St3 Pipeline.ownSems0
  rw [bigSep_kx, bigSep_sep']
  iintro H; iexact H

end Cert.FourWay

end
-- ==== Proof.Run.lean ====
/-
The run of the four kernels, over any float values: it ends, the arguments are unchanged, every counter is at zero, and
each device's result array holds `outAt`.
-/
module

public import proofs.«01_k».proof.Proof.Launch
public import Idealize.ShloMosaic.Lib.Pipeline.CollectiveSegs
public import Idealize.ShloMosaic.Lib.Pipeline.Value

@[expose] public section

noncomputable section

namespace Cert.FourWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Result
variable (X : Dev nD → (cc0_stg0_0 : Ref sig .tc).ty.Contents (Elt F)) (W : Dev nD → (cc0_stg1_0 : Ref sig .tc).ty.Contents (Elt F))

/-- A piece stored into the result, element by element. -/
theorem write_oM (off size : Fin 2 → Nat) (h : ∀ a, off a + size a ≤ S1024x2048.size a) (g : OC F) (w : (Rect.unit (s := S1024x2048) off size h).shape.Idx → Elt F .f32) (i : S1024x2048.Idx) :
    (oM.access (Rect.unit (s := S1024x2048) off size h)).write (Elt F) g w Finset.univ i
      = updateSlice (s := S1024x2048) (u := ⟨2, size⟩) g w off ⟨rfl, h⟩ i :=
  congrFun (View.write_whole_slice_unit (Val := Elt F) (cc0_stg2_0 : Ref sig .tc) off size h g w) i

/-- The two column halves cover the result, so what it held before is not in it. -/
theorem out0_eq (c : Dev nD) (f : OC F) : out0 X W c f = out0 X W c oM.view.junk := by
  funext i
  unfold out0
  refine (write_oM _ _ _ _ _ i).trans (Eq.trans ?_ (write_oM _ _ _ _ _ i).symm)
  unfold updateSlice
  split
  · rfl
  · next h1 =>
    refine (write_oM _ _ _ _ _ i).trans (Eq.trans ?_ (write_oM _ _ _ _ _ i).symm)
    unfold updateSlice
    split
    · rfl
    · next h0 =>
      exfalso
      have e0 : (i 0).val < 1024 := (i 0).isLt
      have e1 : (i 1).val < 2048 := (i 1).isLt
      by_cases hc : (i 1).val < 1024
      · exact h0 (Fin.forall_fin_two.mpr ⟨⟨Nat.zero_le _, by show (i 0).val < 0 + 1024; omega⟩, ⟨Nat.zero_le _, by show (i 1).val < 0 + 1024; omega⟩⟩)
      · exact h1 (Fin.forall_fin_two.mpr ⟨⟨Nat.zero_le _, by show (i 0).val < 0 + 1024; omega⟩, ⟨by show 1024 ≤ (i 1).val; omega, by show (i 1).val < 1024 + 1024; omega⟩⟩)

theorem outOf_eq (c : Dev nD) (f : OC F) : outOf X W c f = outAt X W c := by
  unfold outOf outAt; rw [out0_eq X W c f]

end Result

/-! ## The launch's data -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The staged arguments. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
abbrev result (c : Dev nD) : OC F := outAt (xstg m ρ) (wstg m ρ) c

abbrev GS (c : Dev nD) : sProp 𝕄 := G' (xstg m ρ) (wstg m ρ) c

/-- What the body starts from: the protocol's share of `c`, the levels, and every scratch buffer. -/
def Φ₀ (c : Dev nD) : sProp 𝕄 :=
  iprop((∃ K, records (xstg m ρ) (wstg m ρ) K ∗ levAts L lv ∗ start c) ∗ scr true c ∗ scr false c)
/-- What it ends with: every semaphore at zero, and every scratch buffer. -/
def Φ₁ (c : Dev nD) : sProp 𝕄 :=
  iprop((semVal (barCell c) 0 ∗ lane (St3 c) true ∗ lane (St3 c) false) ∗ scr true c ∗ scr false c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => result m ρ c
  Φ t := match t with
    | ⟨0, _⟩ => Φ₀ m ρ c
    | ⟨_ + 1, _⟩ => Φ₁ c
  q _ := fullShare
  owed t := match t with
    | ⟨0, _⟩ => owedL c dues
    | ⟨_ + 1, _⟩ => owedL c []

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-- Device `c`'s buffer `b` holds `f`. -/
abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c) ∗ stg c cc0_stg2_0 (result m ρ c))

theorem sound_body (c : Dev nD) : bodyPre m ρ c ⊢ runs c body (fun _ => bodyPost m ρ c) := by
  unfold bodyPre Φ₀ start
  iintro ⟨⟨⟨%K, #HR, #Hlev, ⟨Hta, Htb⟩, Hc, Hat, HA, HB⟩, Hsa, Hsb⟩, Ho, ⟨%d0, %g0, %hg0, Hx⟩, ⟨%d1, %g1, %hg1, Hw⟩, ⟨%d2, %g2, -, Hout⟩⟩
  have hx : g0 = xstg m ρ c := by rw [hg0]; unfold Dat.before; rw [if_pos (fetch_0 t0_0)]; rfl
  have hw : g1 = wstg m ρ c := by rw [hg1]; unfold Dat.before; rw [if_pos (fetch_1 t0_0)]; rfl
  subst hx hw
  unfold Dat.owesAt Pipeline.owesWithin
  icases Ho with ⟨%Ws, %hW, HO⟩
  rw [show (dats m ρ 0 c).owed t0_0.castSucc = owedL c dues from rfl]
  ihave #He : env (xstg m ρ) (wstg m ρ) K $$ []
  · unfold env; isplitr
    · iexact HR
    · iexact Hlev
  ihave HO : ow c dues $$ [HO]
  · unfold ow; iexists Ws; iexact HO
  ihave Hxw : xw (xstg m ρ) (wstg m ρ) c $$ [Hx Hw]
  · unfold xw; iframe
  ihave Hout : ob c g2 $$ [Hout]
  · unfold ob; iexact Hout
  iapply (body_runs (xstg m ρ) (wstg m ρ) K c g2) $$ He HO Hta Htb Hc Hat HA HB Hsa Hsb Hxw Hout
  iintro HO HzB HzA HzC Hsa Hsb Hxw Hout
  unfold bodyPost Φ₁ Dat.owesAt Pipeline.owesWithin ow xw ob
  rw [outOf_eq]
  rw [show (dats m ρ 0 c).owed t0_0.succ = owedL c (sendDues (sends.drop 12)) from rfl]
  icases HO with ⟨%Ws', HO⟩
  icases Hxw with ⟨Hx, Hw⟩
  isplitl [Hsa Hsb HzB HzA HzC]
  · iframe
  isplitl [HO]
  · iexists Ws'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 16000 in
/-- The library's body obligation on core `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ runs c body (fun _ => bodyPost m ρ c)
  exact sound_body m ρ c

/-! ## The side conditions -/

theorem share_eq (c : Dev nD) (w : Fin cfg0.W) : (dats m ρ 0 c).share w = fullShare := by unfold Dat.share; split <;> rfl

/-- A scratch buffer held whole, as its memref. -/
theorem some_whole (c : Dev nD) (b : Ref sig .tc) : iprop(∃ f : Buf (Elt F) ((c : Thread nD τ).loc b), ((c : Thread nD τ).loc b) ↦{fullShare} f)
    = iprop(∃ f : Buf (Elt F) ((c : Thread nD τ).loc b), ((c : Thread nD τ).loc b) ↦[(View.whole b).set]{fullShare} f : sProp 𝕄) := by
  rw [View.set_whole]

theorem rest_in (c : Dev nD) : (Pipeline.scopedRest (Ix := Unit) (Name := ℕ) (U := UU) (Lvl := ℕ) (Val := Elt F) cfg0.spec c : sProp 𝕄) ⊢ iprop(scr true c ∗ scr false c) := by
  rw [scopedRest0_eq]
  simp only [some_whole]
  unfold scr some'
  iintro ⟨H0, H1, H2, H3, H4, H5, H6, H7, H8, H9, H10, H11⟩
  isplitl [H0 H1 H4 H5 H8 H9]
  · isplitl [H0]; · iexact H0
    isplitl [H1]; · iexact H1
    isplitl [H4]; · iexact H4
    isplitl [H5]; · iexact H5
    isplitl [H8]; · iexact H8
    iexact H9
  · isplitl [H2]; · iexact H2
    isplitl [H3]; · iexact H3
    isplitl [H6]; · iexact H6
    isplitl [H7]; · iexact H7
    isplitl [H10]; · iexact H10
    iexact H11

theorem rest_out (c : Dev nD) : iprop(scr true c ∗ scr false c) ⊢ (Pipeline.scopedRest (Ix := Unit) (Name := ℕ) (U := UU) (Lvl := ℕ) (Val := Elt F) cfg0.spec c : sProp 𝕄) := by
  rw [scopedRest0_eq]
  simp only [some_whole]
  unfold scr some'
  iintro ⟨⟨H0, H1, H4, H5, H8, H9⟩, H2, H3, H6, H7, H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem start_all (c : Dev nD) :
    iprop(Pipeline.unscopedRestP Pipeline.Prefetch.none cfg0.spec c (fun b => m ((c : Thread nD τ).loc b)) ∗ levAts L lv
        ∗ Pipeline.launchCred O₀ c ∗ prngReg c (ρ c) ∗ GS m ρ c)
      ⊢ |={Set.univ}=> iprop((∃ K, records (xstg m ρ) (wstg m ρ) K ∗ levAts L lv ∗ start c) ∗ emp) := by
  unfold GS G'
  iintro ⟨-, Hlev, Hcr, -, ⟨%K, HR, Hlin⟩⟩
  ihave Hs := (start_intro (F := F) c) $$ [Hlin Hcr]
  · iframe
  imodintro
  isplitl
  · iexists K; iframe
  · iempintro

theorem phi0_intro (c : Dev nD) :
    iprop((∃ K, records (xstg m ρ) (wstg m ρ) K ∗ levAts L lv ∗ start c)
        ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (rest_in c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁
  iintro ⟨⟨HzB, Hz⟩, Hr⟩
  isplitl [HzB]; · iexact HzB
  isplitl [Hz]; · iapply (own_intro c); iexact Hz
  iapply (rest_out c); iexact Hr

theorem mayWait_stage (c : Dev nD) (q : SemLoc sig) (h : lvS q = 0) (t : Fin (cfg0.N + 1)) :
    (levAts L lv : sProp 𝕄) ⊢ MayWait (c : Thread nD τ) q () ((dats m ρ 0 c).owed t) := by
  rcases t with ⟨_ | _, ht⟩
  · exact mayWait c q dues (by rw [h]; decide)
  · exact mayWait c q [] (by simp)

theorem waits (c : Dev nD) : (levAts L lv : sProp 𝕄) ⊢ Pipeline.cellsWaits cfgs (dats m ρ) () 0 c :=
  Pipeline.cellsWaits_intro cfgs (dats m ρ) () 0 c fun w s t =>
    mayWait_stage m ρ c _ (by fin_cases w <;> fin_cases s <;> decide) t

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of @main on the four devices
    terminates, each device's arrays end at the computed contents, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xstg m ρ) (wstg m ρ)) (G' := GS m ρ) (u₀ := u₀)
    (hu₀ := by
      unfold u₀
      iintro Hu
      ihave H := (ownU_pair _ _) $$ Hu
      icases H with ⟨HP, HX⟩
      imod (fund_cells (xstg m ρ) (wstg m ρ)) $$ HX with HG
      imodintro
      isplitl [HP] <;> iassumption)
    (hglob := glob (xstg m ρ) (wstg m ρ))
    (hA := fun _ _ => rfl) (hpf := fun _ k => k.elim0)
    (X := fun c => iprop(∃ K, records (xstg m ρ) (wstg m ρ) K ∗ levAts L lv ∗ start c)) (Y := fun c => unscopedSems0 c) (Z := fun _ => iprop(emp))
    (hX := start_all m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

/-- The run, its arguments unchanged and every counter at zero. -/
theorem frame_any : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩)
    (run_main m ρ)

end Cert.FourWay

end
-- ==== Proof.Same.lean ====
/-
The kernel's text and its idealization's are the same program.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.FourWay

open Idealize.ShloMosaic

variable (F : FTy → Type) [FloatOps F]

/-- The two bodies are one. -/
theorem same_body : @Cert.Kernel.cc0_body F _ _ = @Cert.KernelIdeal.cc0_body F _ _ := rfl

/-- The two tables of bodies are one. -/
theorem same_bodies : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | 0, (t, s) => exact rfl

/-- The two programs' definitions are one. -/
theorem same_defs : Cert.Kernel.defs (F := F) = Cert.KernelIdeal.defs (F := F) := by
  unfold Cert.Kernel.defs Cert.KernelIdeal.defs
  exact congrArg (Pipeline.defs _) (same_bodies F)

end Cert.FourWay

end
-- ==== Proof.Value.lean ====
/-
The values, over the extended reals: what `outAt` is element by element. Every device's result is, at row `i` and column
`j` of its block, the sum over the four devices of that device's columns of `x` times its rows of `w`.
-/
module

public import proofs.«01_k».proof.Proof.Run
public import Idealize.ShloMosaic.Lib.MatmulPlain
public import Idealize.ShloMosaic.Lib.ValueIdx
public import Idealize.ShloMosaic.Lib.StackMember
public import Idealize.ShloMosaic.Lib.Layout

@[expose] public section

noncomputable section

namespace Cert.FourWay

open Cert.KernelIdeal Cert.KernelIdeal.Gen
open Idealize.ShloMosaic Idealize.ShloMosaic.TcCoe
open Idealize.ShloMosaic.ValueIdx
open scoped BigOperators

/-! ## Reading and writing rectangles of a whole buffer -/

section Rects
variable {F : FTy → Type} [FloatOps F]

/-- A unit rectangle of a whole buffer, read at `z`, is the buffer at `off + z`. -/
theorem readAt_whole (b : Ref sig .tc) (off size : Fin b.ty.shape.rank → Nat) (h : ∀ a, off a + size a ≤ b.ty.shape.size a)
    (f : b.ty.Contents (Elt F)) (z : (Rect.unit (s := b.ty.shape) off size h).shape.Idx) (y : b.ty.shape.Idx)
    (hy : ∀ a, (y a).val = off a + (z a).val) :
    (Memref.whole b).view.readAt (Elt F) (Rect.unit (s := b.ty.shape) off size h).toLoadRect f z = f y := by
  refine congrArg f (funext fun a => Fin.ext ?_)
  show off a + 1 * (z a).val = (y a).val
  rw [hy a]; omega

/-- A slice update inside the updated rectangle. -/
theorem updateSlice_in {s u : Shape} {α : Type} (x : s.Idx → α) (upd : u.Idx → α) (st : Fin s.rank → Nat) (h : s.Slices st u)
    (y : s.Idx) (z : u.Idx) (hy : ∀ a, (y a).val = st a + (z (a.cast h.1.symm)).val) : updateSlice x upd st h y = upd z := by
  unfold updateSlice
  rw [dif_pos (fun a => ⟨by rw [hy a]; exact Nat.le_add_right _ _, by rw [hy a]; exact Nat.add_lt_add_left (z _).isLt _⟩)]
  refine congrArg upd (funext fun a => Fin.ext ?_)
  have := hy (a.cast h.1)
  show (y (a.cast h.1)).val - st (a.cast h.1) = (z a).val
  rw [this]; exact Nat.add_sub_cancel_left _ _

/-- A slice update outside the updated rectangle. -/
theorem updateSlice_out {s u : Shape} {α : Type} (x : s.Idx → α) (upd : u.Idx → α) (st : Fin s.rank → Nat) (h : s.Slices st u)
    (y : s.Idx) (a : Fin s.rank) (hy : (y a).val < st a ∨ st a + u.size (a.cast h.1.symm) ≤ (y a).val) : updateSlice x upd st h y = x y := by
  unfold updateSlice
  rw [dif_neg (fun hin => by have := hin a; omega)]

/-- A store through a unit rectangle of a whole buffer, read inside the rectangle. -/
theorem write_in (b : Ref sig .tc) (off size : Fin b.ty.shape.rank → Nat) (h : ∀ a, off a + size a ≤ b.ty.shape.size a)
    (f : b.ty.Contents (Elt F)) (w : (Rect.unit (s := b.ty.shape) off size h).shape.Idx → Elt F b.ty.elt) (y : b.ty.shape.Idx)
    (z : (Rect.unit (s := b.ty.shape) off size h).shape.Idx) (hy : ∀ a, (y a).val = off a + (z a).val) :
    ((View.whole b).slice (Rect.unit (s := b.ty.shape) off size h)).write (Elt F) f w Finset.univ y = w z :=
  (congrFun (View.write_whole_slice_unit (Val := Elt F) b off size h f w) y).trans (updateSlice_in f w off ⟨rfl, h⟩ y z hy)

/-- A store through a unit rectangle of a whole buffer, read outside the rectangle. -/
theorem write_out (b : Ref sig .tc) (off size : Fin b.ty.shape.rank → Nat) (h : ∀ a, off a + size a ≤ b.ty.shape.size a)
    (f : b.ty.Contents (Elt F)) (w : (Rect.unit (s := b.ty.shape) off size h).shape.Idx → Elt F b.ty.elt) (y : b.ty.shape.Idx)
    (a : Fin b.ty.shape.rank) (hy : (y a).val < off a ∨ off a + size a ≤ (y a).val) :
    ((View.whole b).slice (Rect.unit (s := b.ty.shape) off size h)).write (Elt F) f w Finset.univ y = f y :=
  (congrFun (View.write_whole_slice_unit (Val := Elt F) b off size h f w) y).trans (updateSlice_out f w off ⟨rfl, h⟩ y a hy)

end Rects

/-! ## The products -/

/-- The piece products of 256 rows are sums over the contracted coordinate. -/
theorem pay2_at (x : FVec Ideal S256x1024 .bf16) (w : FVec Ideal S1024x1024 .bf16) (i : Fin 256) (j : Fin 1024) :
    (k0_pay2 (F := Ideal) x w (ix2 i j) : EReal) = ∑ k : Fin 1024, x (ix2 i k) * w (ix2 k j) := by
  simp only [k0_pay2, shapeCast_self, truncf_apply, matmul]
  refine (Ideal.matmul_plain_apply (M := 256) (K := 1024) (N := 1024) none x w _ i j).trans ?_
  rw [constant_apply, Ideal.ofBits_zero_f32, zero_add]

/-- So are the piece products of 512 rows, -/
theorem pay7_at (x : FVec Ideal S512x1024 .bf16) (w : FVec Ideal S1024x1024 .bf16) (i : Fin 512) (j : Fin 1024) :
    (k0_pay7 (F := Ideal) x w (ix2 i j) : EReal) = ∑ k : Fin 1024, x (ix2 i k) * w (ix2 k j) := by
  simp only [k0_pay7, shapeCast_self, truncf_apply, matmul]
  refine (Ideal.matmul_plain_apply (M := 512) (K := 1024) (N := 1024) none x w _ i j).trans ?_
  rw [constant_apply, Ideal.ofBits_zero_f32, zero_add]

/-- the whole products that are sent, -/
theorem pay9_at (x w : FVec Ideal S1024x1024 .bf16) (i j : Fin 1024) :
    (k0_pay9 (F := Ideal) x w (ix2 i j) : EReal) = ∑ k : Fin 1024, x (ix2 i k) * w (ix2 k j) := by
  simp only [k0_pay9, shapeCast_self, truncf_apply, matmul]
  refine (Ideal.matmul_plain_apply (M := 1024) (K := 1024) (N := 1024) none x w _ i j).trans ?_
  rw [constant_apply, Ideal.ofBits_zero_f32, zero_add]

/-- and the whole products that are kept. -/
theorem pay12_at (x w : FVec Ideal S1024x1024 .bf16) (i j : Fin 1024) :
    (k0_pay12 (F := Ideal) x w (ix2 i j) : EReal) = ∑ k : Fin 1024, x (ix2 i k) * w (ix2 k j) := by
  simp only [k0_pay12, shapeCast_self, matmul]
  refine (Ideal.matmul_plain_apply (M := 1024) (K := 1024) (N := 1024) none x w _ i j).trans ?_
  rw [constant_apply, Ideal.ofBits_zero_f32, zero_add]

/-- The upper half of a product, with what landed added. -/
theorem pay17_at (v : FVec Ideal S1024x1024 .f32) (r : FVec Ideal S512x1024 .fp8e4m3) (i : Fin 512) (j : Fin 1024) :
    (k0_pay17 (F := Ideal) v r (ix2 i j) : EReal) = v (ix2 ⟨i.val, by omega⟩ j) + r (ix2 i j) := by
  simp only [k0_pay17, shapeCast_self, truncf_apply, addf_apply, extf_apply]
  refine congrArg (· + r (ix2 i j)) (extractStridedSlice_apply _ _ _ _ _ (Fin.forall_fin_two.mpr ⟨?_, ?_⟩))
  · show i.val = 0 + i.val; omega
  · show j.val = 0 + j.val; omega

/-- The lower half of a product, with what landed added. -/
theorem pay18_at (v : FVec Ideal S1024x1024 .f32) (r : FVec Ideal S512x1024 .fp8e4m3) (i : Fin 512) (j : Fin 1024) :
    (k0_pay18 (F := Ideal) v r (ix2 i j) : EReal) = v (ix2 ⟨512 + i.val, by omega⟩ j) + r (ix2 i j) := by
  simp only [k0_pay18, shapeCast_self, truncf_apply, addf_apply, extf_apply]
  refine congrArg (· + r (ix2 i j)) (extractStridedSlice_apply _ _ _ _ _ (Fin.forall_fin_two.mpr ⟨?_, ?_⟩))
  · show 512 + i.val = 512 + i.val; rfl
  · show j.val = 0 + j.val; omega

/-- A product with the received product added. -/
theorem pay21_at (v : FVec Ideal S1024x1024 .f32) (r : FVec Ideal S1024x1024 .bf16) (y : S1024x1024.Idx) :
    (k0_pay21 (F := Ideal) v r y : EReal) = v y + r y := rfl

/-- A later addition. -/
theorem pay23_at (v : FVec Ideal S512x1024 .f32) (r : FVec Ideal S512x1024 .bf16) (y : S512x1024.Idx) :
    (k0_pay23 (F := Ideal) v r y : EReal) = v y + r y := by
  simp only [k0_pay23, shapeCast_self, addf_apply, extf_apply]

/-! ## Where the rectangles lie -/

/-- The rows of the block of the device two places on, -/
theorem off1_at (c : Dev nD) : k0_off1 c 0#32 = ![1024 * (dg c).val, 0] := by revert c; decide +kernel
theorem off1_at' (c : Dev nD) : k0_off1 c 256#32 = ![1024 * (dg c).val + 256, 0] := by revert c; decide +kernel
theorem off2_at (c : Dev nD) : k0_off2 c = ![1024 * (dg c).val + 512, 0] := by revert c; decide +kernel
/-- of the two partners' blocks, -/
theorem off3_at (c : Dev nD) : k0_off3 c = ![1024 * (peer true c).val, 0] := by revert c; decide +kernel
theorem off4_at (c : Dev nD) : k0_off4 c = ![1024 * (peer false c).val, 0] := by revert c; decide +kernel
/-- and of its own. -/
theorem off5_at (c : Dev nD) : k0_off5 c = ![1024 * c.val, 0] := by revert c; decide +kernel

/-- Row `i` of block `d`. -/
def row (d : Dev nD) (i : Fin 1024) : Fin 4096 := ⟨1024 * d.val + i.val, by have : d.val < 4 := d.isLt; omega⟩
/-- Column `j` of column half `b`. -/
def col : Bool → Fin 1024 → Fin 2048
  | true, j => ⟨j.val, by omega⟩
  | false, j => ⟨1024 + j.val, by omega⟩

section Blocks
variable (X : Dev nD → FVec Ideal S4096x1024 .bf16) (W : Dev nD → FVec Ideal S1024x2048 .bf16)

/-- One device's share of the product at a row and a column: its columns of `x` times its rows of `w`. -/
def part (d : Dev nD) (i : Fin 4096) (j : Fin 2048) : EReal := ∑ k : Fin 1024, X d (ix2 i k) * W d (ix2 k j)

theorem wH_at (c : Dev nD) (b : Bool) (k j : Fin 1024) : wH W c b (ix2 k j) = W c (ix2 k (col b j)) := by
  cases b
  · refine readAt_whole (F := Ideal) cc0_stg1_0 _ _ _ _ _ _ (Fin.forall_fin_two.mpr ⟨?_, rfl⟩)
    show k.val = 0 + k.val; omega
  · refine readAt_whole (F := Ideal) cc0_stg1_0 _ _ _ _ _ _ (Fin.forall_fin_two.mpr ⟨?_, ?_⟩)
    · show k.val = 0 + k.val; omega
    · show j.val = 0 + j.val; omega

/-- Rows of `x` read at an offset `[o, 0]`. -/
theorem rows_at (f : FVec Ideal S4096x1024 .bf16) {n : Nat} (o : Nat) (off : Fin 2 → Nat) (ho : off = ![o, 0])
    (h : ∀ a, off a + (![n, 1024] : Fin 2 → Nat) a ≤ S4096x1024.size a) (i : Fin n) (k : Fin 1024) (r : Fin 4096) (hr : r.val = o + i.val) :
    xM.view.readAt (Elt Ideal) (Rect.unit (s := S4096x1024) off ![n, 1024] h).toLoadRect f (ix2 i k) = f (ix2 r k) := by
  subst ho
  refine readAt_whole (F := Ideal) cc0_stg0_0 _ _ _ _ _ _ (Fin.forall_fin_two.mpr ⟨hr, ?_⟩)
  show k.val = 0 + k.val; omega

theorem xP_at (c : Dev nD) (b : Bool) (i k : Fin 1024) : xP X c b (ix2 i k) = X c (ix2 (row (peer b c) i) k) := by
  cases b
  · exact rows_at (X c) _ _ (off4_at c) _ i k _ rfl
  · exact rows_at (X c) _ _ (off3_at c) _ i k _ rfl
theorem xO_at (c : Dev nD) (i k : Fin 1024) : xO X c (ix2 i k) = X c (ix2 (row c i) k) :=
  rows_at (X c) _ _ (off5_at c) _ i k _ rfl
theorem xD0_at (c : Dev nD) (i : Fin 256) (k : Fin 1024) : xD0 X c (ix2 i k) = X c (ix2 (row (dg c) ⟨i.val, by omega⟩) k) :=
  rows_at (X c) _ _ (off1_at c) _ i k _ rfl
theorem xD1_at (c : Dev nD) (i : Fin 256) (k : Fin 1024) : xD1 X c (ix2 i k) = X c (ix2 (row (dg c) ⟨256 + i.val, by omega⟩) k) :=
  rows_at (X c) _ _ (off1_at' c) _ i k _ (Nat.add_assoc _ _ _).symm
theorem xD2_at (c : Dev nD) (i : Fin 512) (k : Fin 1024) : xD2 X c (ix2 i k) = X c (ix2 (row (dg c) ⟨512 + i.val, by omega⟩) k) :=
  rows_at (X c) _ _ (off2_at c) _ i k _ (Nat.add_assoc _ _ _).symm

/-! ## What is sent, and what is there when it is read -/

theorem vF_at (b : Bool) (c : Dev nD) (i j : Fin 1024) : (vF (F := Ideal) X W b c (ix2 i j) : EReal) = part X W c (row (peer b c) i) (col b j) := by
  unfold vF part; rw [pay9_at]; simp only [xP_at, wH_at]
theorem vD0_at (b : Bool) (c : Dev nD) (i : Fin 256) (j : Fin 1024) :
    (vD0 (F := Ideal) X W b c (ix2 i j) : EReal) = part X W c (row (dg c) ⟨i.val, by omega⟩) (col b j) := by
  unfold vD0 part; rw [pay2_at]; simp only [xD0_at, wH_at]
theorem vD1_at (b : Bool) (c : Dev nD) (i : Fin 256) (j : Fin 1024) :
    (vD1 (F := Ideal) X W b c (ix2 i j) : EReal) = part X W c (row (dg c) ⟨256 + i.val, by omega⟩) (col b j) := by
  unfold vD1 part; rw [pay2_at]; simp only [xD1_at, wH_at]
theorem vD2_at (b : Bool) (c : Dev nD) (i : Fin 512) (j : Fin 1024) :
    (vD2 (F := Ideal) X W b c (ix2 i j) : EReal) = part X W c (row (dg c) ⟨512 + i.val, by omega⟩) (col b j) := by
  unfold vD2 part; rw [pay7_at]; simp only [xD2_at, wH_at]

/-- The upper half of a lane's landing buffer: the partner's product for the block two places from it, -/
theorem land0_at (b : Bool) (c : Dev nD) (i : Fin 512) (j : Fin 1024) :
    ((dR b).view.readAt (Elt Ideal) rh0.toLoadRect (landD (F := Ideal) X W b c) (ix2 i j) : EReal)
      = part X W (peer b c) (row (dg (peer b c)) ⟨i.val, by omega⟩) (col b j) := by
  have hz : ∀ a : Fin 2, ((ix2 (⟨i.val, by omega⟩ : Fin 1024) j : S1024x1024.Idx) a).val = (![0, 0] : Fin 2 → Nat) a + ((ix2 i j : S512x1024.Idx) a).val :=
    Fin.forall_fin_two.mpr ⟨(Nat.zero_add _).symm, (Nat.zero_add _).symm⟩
  have hi : i.val < 512 := i.isLt
  by_cases h : i.val < 256
  · have h0 : ∀ a : Fin 2, ((ix2 (⟨i.val, by omega⟩ : Fin 1024) j : S1024x1024.Idx) a).val
        = (![0, 0] : Fin 2 → Nat) a + ((ix2 (⟨i.val, h⟩ : Fin 256) j : S256x1024.Idx) a).val :=
      Fin.forall_fin_two.mpr ⟨(Nat.zero_add _).symm, (Nat.zero_add _).symm⟩
    refine Eq.trans ?_ (vD0_at X W b (peer b c) ⟨i.val, h⟩ j)
    cases b
    · refine (readAt_whole (F := Ideal) cc0_scratch3 _ _ _ _ _ _ hz).trans ?_
      refine (write_out (F := Ideal) cc0_scratch3 _ _ _ _ _ _ (0 : Fin 2) (Or.inl (show i.val < 512 from hi))).trans ?_
      refine (write_out (F := Ideal) cc0_scratch3 _ _ _ _ _ _ (0 : Fin 2) (Or.inl (show i.val < 256 from h))).trans ?_
      exact write_in (F := Ideal) cc0_scratch3 _ _ _ _ _ _ _ h0
    · refine (readAt_whole (F := Ideal) cc0_scratch1 _ _ _ _ _ _ hz).trans ?_
      refine (write_out (F := Ideal) cc0_scratch1 _ _ _ _ _ _ (0 : Fin 2) (Or.inl (show i.val < 512 from hi))).trans ?_
      refine (write_out (F := Ideal) cc0_scratch1 _ _ _ _ _ _ (0 : Fin 2) (Or.inl (show i.val < 256 from h))).trans ?_
      exact write_in (F := Ideal) cc0_scratch1 _ _ _ _ _ _ _ h0
  · have h1 : ∀ a : Fin 2, ((ix2 (⟨i.val, by omega⟩ : Fin 1024) j : S1024x1024.Idx) a).val
        = (![256, 0] : Fin 2 → Nat) a + ((ix2 (⟨i.val - 256, by omega⟩ : Fin 256) j : S256x1024.Idx) a).val :=
      Fin.forall_fin_two.mpr ⟨by show i.val = 256 + (i.val - 256); omega, (Nat.zero_add _).symm⟩
    refine Eq.trans ?_ ((vD1_at X W b (peer b c) ⟨i.val - 256, by omega⟩ j).trans
      (congrArg (fun r => part X W (peer b c) (row (dg (peer b c)) r) (col b j)) (Fin.ext (show 256 + (i.val - 256) = i.val by omega))))
    cases b
    · refine (readAt_whole (F := Ideal) cc0_scratch3 _ _ _ _ _ _ hz).trans ?_
      refine (write_out (F := Ideal) cc0_scratch3 _ _ _ _ _ _ (0 : Fin 2) (Or.inl (show i.val < 512 from hi))).trans ?_
      exact write_in (F := Ideal) cc0_scratch3 _ _ _ _ _ _ _ h1
    · refine (readAt_whole (F := Ideal) cc0_scratch1 _ _ _ _ _ _ hz).trans ?_
      refine (write_out (F := Ideal) cc0_scratch1 _ _ _ _ _ _ (0 : Fin 2) (Or.inl (show i.val < 512 from hi))).trans ?_
      exact write_in (F := Ideal) cc0_scratch1 _ _ _ _ _ _ _ h1

/-- and its lower half. -/
theorem land1_at (b : Bool) (c : Dev nD) (i : Fin 512) (j : Fin 1024) :
    ((dR b).view.readAt (Elt Ideal) rh1.toLoadRect (landD (F := Ideal) X W b c) (ix2 i j) : EReal)
      = part X W (peer b c) (row (dg (peer b c)) ⟨512 + i.val, by omega⟩) (col b j) := by
  have hz : ∀ a : Fin 2, ((ix2 (⟨512 + i.val, by omega⟩ : Fin 1024) j : S1024x1024.Idx) a).val = (![512, 0] : Fin 2 → Nat) a + ((ix2 i j : S512x1024.Idx) a).val :=
    Fin.forall_fin_two.mpr ⟨rfl, (Nat.zero_add _).symm⟩
  refine Eq.trans ?_ (vD2_at X W b (peer b c) i j)
  cases b
  · exact (readAt_whole (F := Ideal) cc0_scratch3 _ _ _ _ _ _ hz).trans (write_in (F := Ideal) cc0_scratch3 _ _ _ _ _ _ _ hz)
  · exact (readAt_whole (F := Ideal) cc0_scratch1 _ _ _ _ _ _ hz).trans (write_in (F := Ideal) cc0_scratch1 _ _ _ _ _ _ _ hz)

/-- Two places on from the other lane's partner is this lane's partner. -/
theorem dg_peer (b : Bool) (c : Dev nD) : dg (peer (!b) c) = peer b c := by revert b c; decide

/-- The combined product sent along a lane: the sender's share and its other partner's, at the receiver's rows. -/
theorem vG0_at (b : Bool) (c : Dev nD) (i : Fin 512) (j : Fin 1024) :
    (vG0 (F := Ideal) X W b c (ix2 i j) : EReal)
      = part X W c (row (peer b c) ⟨i.val, by omega⟩) (col (!b) j) + part X W (peer (!b) c) (row (peer b c) ⟨i.val, by omega⟩) (col (!b) j) := by
  unfold vG0
  rw [pay17_at, land0_at, dg_peer, pay12_at]
  simp only [xP_at, wH_at]; rfl
theorem vG1_at (b : Bool) (c : Dev nD) (i : Fin 512) (j : Fin 1024) :
    (vG1 (F := Ideal) X W b c (ix2 i j) : EReal)
      = part X W c (row (peer b c) ⟨512 + i.val, by omega⟩) (col (!b) j) + part X W (peer (!b) c) (row (peer b c) ⟨512 + i.val, by omega⟩) (col (!b) j) := by
  unfold vG1
  rw [pay18_at, land1_at, dg_peer, pay12_at]
  simp only [xP_at, wH_at]; rfl

/-! ## The result -/

/-- An element of the result outside a later addition's rectangle keeps its value, -/
theorem addInto_out (off : Fin 2 → Nat) (h : ∀ a, off a + S512x1024.size a ≤ S1024x2048.size a) (f : OC Ideal) (v : FVec Ideal S512x1024 .bf16)
    (y : S1024x2048.Idx) (a : Fin 2) (hy : (y a).val < off a ∨ off a + S512x1024.size a ≤ (y a).val) : addInto off h f v y = f y :=
  write_out (F := Ideal) cc0_stg2_0 _ _ _ _ _ y a hy
/-- and one inside gains the added value. -/
theorem addInto_in (off : Fin 2 → Nat) (h : ∀ a, off a + S512x1024.size a ≤ S1024x2048.size a) (f : OC Ideal) (v : FVec Ideal S512x1024 .bf16)
    (y : S1024x2048.Idx) (z : S512x1024.Idx) (hy : ∀ a, (y a).val = off a + (z a).val) : Eq (α := EReal) (addInto off h f v y) (HAdd.hAdd (α := EReal) (β := EReal) (γ := EReal) (f y) (v z)) := by
  refine (write_in (F := Ideal) cc0_stg2_0 off S512x1024.size h f (k0_pay23 (oM.view.readAt (Elt Ideal) (Rect.unit (s := S1024x2048) off S512x1024.size h).toLoadRect f) v) y z hy).trans ((pay23_at _ v z).trans ?_)
  exact congrArg (fun t : EReal => HAdd.hAdd (α := EReal) (β := EReal) (γ := EReal) t (v z)) (readAt_whole (F := Ideal) cc0_stg2_0 _ _ _ _ _ y hy)

/-- What the first two stores leave: its own share and its partner's. -/
theorem out0_at (b : Bool) (c : Dev nD) (f : OC Ideal) (i j : Fin 1024) :
    (out0 (F := Ideal) X W c f (ix2 i (col b j)) : EReal) = part X W c (row c i) (col b j) + part X W (peer b c) (row c i) (col b j) := by
  have key : (k0_pay21 (F := Ideal) (k0_pay12 (F := Ideal) (xO (F := Ideal) X c) (wH (F := Ideal) W c b)) (vF (F := Ideal) X W b (peer b c)) (ix2 i j) : EReal)
      = part X W c (row c i) (col b j) + part X W (peer b c) (row c i) (col b j) := by
    rw [pay21_at, pay12_at, vF_at, peer_peer]
    simp only [xO_at, wH_at]; rfl
  refine Eq.trans ?_ key
  cases b
  · exact write_in (F := Ideal) cc0_stg2_0 _ _ _ _ _ _ (ix2 i j) (Fin.forall_fin_two.mpr ⟨(Nat.zero_add _).symm, rfl⟩)
  · refine (write_out (F := Ideal) cc0_stg2_0 _ _ _ _ _ _ (1 : Fin 2) (Or.inl (show j.val < 1024 from j.isLt))).trans ?_
    exact write_in (F := Ideal) cc0_stg2_0 _ _ _ _ _ _ (ix2 i j) (Fin.forall_fin_two.mpr ⟨(Nat.zero_add _).symm, (Nat.zero_add _).symm⟩)

/-- The result, element by element: the shares of the device, its partner along the lane of the column half, its other
    partner, and that one's partner along the lane. -/
theorem outAt_at (b : Bool) (c : Dev nD) (i j : Fin 1024) :
    (outAt (F := Ideal) X W c (ix2 i (col b j)) : EReal)
      = part X W c (row c i) (col b j) + part X W (peer b c) (row c i) (col b j)
        + (part X W (peer (!b) c) (row c i) (col b j) + part X W (peer b (peer (!b) c)) (row c i) (col b j)) := by
  have hj : j.val < 1024 := j.isLt
  have hi : i.val < 1024 := i.isLt
  rw [← out0_at X W b c oM.view.junk i j]
  by_cases h : i.val < 512
  · have key := vG0_at X W (!b) (peer (!b) c) ⟨i.val, h⟩ j
    rw [peer_peer, Bool.not_not] at key
    rw [← key]
    cases b
    · refine (addInto_out _ _ _ _ _ (0 : Fin 2) (Or.inl (show i.val < 512 from h))).trans ?_
      refine (addInto_out _ _ _ _ _ (0 : Fin 2) (Or.inl (show i.val < 512 from h))).trans ?_
      refine (addInto_in _ _ _ _ _ (ix2 ⟨i.val, h⟩ j) (show ∀ a : Fin 2, ((ix2 i (col false j) : S1024x2048.Idx) a).val = (![0, 1024] : Fin 2 → Nat) a + ((ix2 ⟨i.val, h⟩ j : S512x1024.Idx) a).val from Fin.forall_fin_two.mpr ⟨(Nat.zero_add _).symm, rfl⟩)).trans ?_
      exact congrArg (fun t : EReal => t + _) (addInto_out _ _ _ _ _ (1 : Fin 2) (Or.inr (show 0 + 1024 ≤ 1024 + j.val by omega)))
    · refine (addInto_out _ _ _ _ _ (0 : Fin 2) (Or.inl (show i.val < 512 from h))).trans ?_
      refine (addInto_out _ _ _ _ _ (0 : Fin 2) (Or.inl (show i.val < 512 from h))).trans ?_
      refine (addInto_out _ _ _ _ _ (1 : Fin 2) (Or.inl (show j.val < 1024 from hj))).trans ?_
      exact addInto_in _ _ _ _ _ (ix2 ⟨i.val, h⟩ j) (show ∀ a : Fin 2, ((ix2 i (col true j) : S1024x2048.Idx) a).val = (![0, 0] : Fin 2 → Nat) a + ((ix2 ⟨i.val, h⟩ j : S512x1024.Idx) a).val from Fin.forall_fin_two.mpr ⟨(Nat.zero_add _).symm, (Nat.zero_add _).symm⟩)
  · have key := vG1_at X W (!b) (peer (!b) c) ⟨i.val - 512, by omega⟩ j
    rw [peer_peer, Bool.not_not] at key
    have er : (⟨512 + (i.val - 512), by omega⟩ : Fin 1024) = i := Fin.ext (show 512 + (i.val - 512) = i.val by omega)
    rw [show row c ⟨512 + (i.val - 512), by omega⟩ = row c i from congrArg (row c) er] at key
    rw [← key]
    have h0 : i.val = 512 + (i.val - 512) := by omega
    cases b
    · refine (addInto_in _ _ _ _ _ (ix2 ⟨i.val - 512, by omega⟩ j) (show ∀ a : Fin 2, ((ix2 i (col false j) : S1024x2048.Idx) a).val = (![512, 1024] : Fin 2 → Nat) a + ((ix2 ⟨i.val - 512, by omega⟩ j : S512x1024.Idx) a).val from Fin.forall_fin_two.mpr ⟨h0, rfl⟩)).trans ?_
      refine congrArg (fun t : EReal => t + _) ?_
      refine (addInto_out _ _ _ _ _ (1 : Fin 2) (Or.inr (show 0 + 1024 ≤ 1024 + j.val by omega))).trans ?_
      refine (addInto_out _ _ _ _ _ (0 : Fin 2) (Or.inr (show 0 + 512 ≤ i.val by omega))).trans ?_
      exact addInto_out _ _ _ _ _ (0 : Fin 2) (Or.inr (show 0 + 512 ≤ i.val by omega))
    · refine (addInto_out _ _ _ _ _ (1 : Fin 2) (Or.inl (show j.val < 1024 from hj))).trans ?_
      refine (addInto_in _ _ _ _ _ (ix2 ⟨i.val - 512, by omega⟩ j) (show ∀ a : Fin 2, ((ix2 i (col true j) : S1024x2048.Idx) a).val = (![512, 0] : Fin 2 → Nat) a + ((ix2 ⟨i.val - 512, by omega⟩ j : S512x1024.Idx) a).val from Fin.forall_fin_two.mpr ⟨h0, (Nat.zero_add _).symm⟩)).trans ?_
      refine congrArg (fun t : EReal => t + _) ?_
      refine (addInto_out _ _ _ _ _ (1 : Fin 2) (Or.inl (show j.val < 1024 from hj))).trans ?_
      exact addInto_out _ _ _ _ _ (0 : Fin 2) (Or.inr (show 0 + 512 ≤ i.val by omega))

/-- The four devices named are all four, so the result is the sum of every device's share. -/
theorem outAt_sum (b : Bool) (c : Dev nD) (i j : Fin 1024) :
    (outAt (F := Ideal) X W c (ix2 i (col b j)) : EReal) = ∑ d : Fin 4, part X W d (row c i) (col b j) := by
  rw [outAt_at]
  have all : ∀ (g : Fin 4 → EReal) (b : Bool) (c : Dev nD),
      g c + g (peer b c) + (g (peer (!b) c) + g (peer b (peer (!b) c))) = ∑ d : Fin 4, g d := by
    intro g b c
    rw [Fin.sum_univ_four]
    have hc : c = (0 : Fin 4) ∨ c = (1 : Fin 4) ∨ c = (2 : Fin 4) ∨ c = (3 : Fin 4) := by revert c; decide
    rcases hc with rfl | rfl | rfl | rfl <;> cases b
    · show g 0 + g 1 + (g 3 + g 2) = _; ac_rfl
    · show g 0 + g 3 + (g 1 + g 2) = _; ac_rfl
    · show g 1 + g 0 + (g 2 + g 3) = _; ac_rfl
    · show g 1 + g 2 + (g 0 + g 3) = _; ac_rfl
    · show g 2 + g 3 + (g 1 + g 0) = _; ac_rfl
    · show g 2 + g 1 + (g 3 + g 0) = _; ac_rfl
    · show g 3 + g 2 + (g 0 + g 1) = _; ac_rfl
    · show g 3 + g 0 + (g 2 + g 1) = _; ac_rfl
  exact all (fun d => part X W d (row c i) (col b j)) b c

end Blocks

/-! ## Against the whole product -/

/-- A sum over 4096 positions, taken 1024 at a time. -/
theorem sum_blocks (g : Fin 4096 → EReal) : ∑ d : Fin 4, ∑ k : Fin 1024, g (row d k) = ∑ q : Fin 4096, g q := by
  rw [← Fintype.sum_prod_type' (fun (d : Fin 4) (k : Fin 1024) => g (row d k)), ← Equiv.sum_comp (finProdFinEquiv (m := 4) (n := 1024))]
  refine Finset.sum_congr rfl fun p _ => congrArg g (Fin.ext ?_)
  show 1024 * p.1.val + p.2.val = p.2.val + 1024 * p.1.val
  omega

/-- With the arguments cut over the devices, columns of `x` and rows of `w`, the devices' shares add up to the whole
    product. -/
theorem sum_part (X : Dev nD → FVec Ideal S4096x1024 .bf16) (W : Dev nD → FVec Ideal S1024x2048 .bf16)
    (x : FVec Ideal ⟨2, ![4096, 4096]⟩ .bf16) (w : FVec Ideal ⟨2, ![4096, 2048]⟩ .bf16)
    (hX : ∀ c : Dev nD, X c = Layout.block ⟨2, ![4096, 1024]⟩ ⟨2, ![4096, 4096]⟩ 1 4 c x)
    (hW : ∀ c : Dev nD, W c = Layout.block ⟨2, ![1024, 2048]⟩ ⟨2, ![4096, 2048]⟩ 0 4 c w) (i : Fin 4096) (j : Fin 2048) :
    ∑ d : Fin 4, part X W d i j = Host.dotGeneral (DotDims.plain 4096 4096 2048) none x w (ix2 i j) := by
  refine Eq.trans ?_ ((sum_blocks fun q => x (ix2 i q) * w (ix2 q j)).trans (StackMember.dotGeneral_plain_apply none x w i j).symm)
  refine Finset.sum_congr rfl fun d _ => Finset.sum_congr rfl fun k _ => ?_
  have ex : X d (ix2 i k) = x (ix2 i (row d k)) := by
    rw [hX d, Layout.block_apply]
    refine congrArg x (funext (Fin.forall_fin_two.mpr ⟨Fin.ext ?_, Fin.ext ?_⟩))
    · rfl
    · show d.val * 1024 + k.val = 1024 * d.val + k.val; omega
  have ew : W d (ix2 k j) = w (ix2 (row d k) j) := by
    rw [hW d, Layout.block_apply]
    refine congrArg w (funext (Fin.forall_fin_two.mpr ⟨Fin.ext ?_, Fin.ext ?_⟩))
    · show d.val * 1024 + k.val = 1024 * d.val + k.val; omega
    · rfl
  rw [ex, ew]

/-- Every device's result is its block of rows of the whole product. -/
theorem outAt_block (X : Dev nD → FVec Ideal S4096x1024 .bf16) (W : Dev nD → FVec Ideal S1024x2048 .bf16)
    (x : FVec Ideal ⟨2, ![4096, 4096]⟩ .bf16) (w : FVec Ideal ⟨2, ![4096, 2048]⟩ .bf16)
    (hX : ∀ c : Dev nD, X c = Layout.block ⟨2, ![4096, 1024]⟩ ⟨2, ![4096, 4096]⟩ 1 4 c x)
    (hW : ∀ c : Dev nD, W c = Layout.block ⟨2, ![1024, 2048]⟩ ⟨2, ![4096, 2048]⟩ 0 4 c w) (c : Dev nD) :
    outAt (F := Ideal) X W c = Layout.block ⟨2, ![1024, 2048]⟩ ⟨2, ![4096, 2048]⟩ 0 4 c (Host.dotGeneral (DotDims.plain 4096 4096 2048) none x w) := by
  funext y
  obtain ⟨i, q, rfl⟩ : ∃ (i : Fin 1024) (q : Fin 2048), y = ix2 i q := ⟨y 0, y 1, eq_ix2 y⟩
  obtain ⟨b, j, rfl⟩ : ∃ (b : Bool) (j : Fin 1024), q = col b j := by
    by_cases h : q.val < 1024
    · exact ⟨true, ⟨q.val, h⟩, rfl⟩
    · exact ⟨false, ⟨q.val - 1024, by omega⟩, Fin.ext (show q.val = 1024 + (q.val - 1024) by omega)⟩
  refine (outAt_sum X W b c i j).trans ((sum_part X W x w hX hW (row c i) (col b j)).trans ?_)
  rw [Layout.block_apply]
  refine congrArg (Host.dotGeneral (DotDims.plain 4096 4096 2048) none x w) (funext (Fin.forall_fin_two.mpr ⟨Fin.ext ?_, Fin.ext ?_⟩))
  · show 1024 * c.val + i.val = c.val * 1024 + i.val; omega
  · rfl

/-! ## The arrays the run reads and leaves -/

section Arrays
variable {F : FTy → Type} [FloatOps F] (m : (ℓ : Loc nD τ sig) → Buf (Elt F) ℓ) (ρ : Dev nD → PrngReg)

/-- What is staged is the whole argument. -/
theorem xstg_eq (c : Dev nD) : xstg m ρ c = m ((c : Thread nD τ).loc main_arg0) := by
  unfold xstg
  have hz : (fun a => win0_0.index (0 : Fin 1) a * main_arg0.ty.shape.size a) = fun _ => 0 := funext fun a => by fin_cases a <;> decide
  exact Memref.read_access_unit_zero (Elt F) main_arg0 hz (fun a => by rw [congrFun hz a]; simp) _
theorem wstg_eq (c : Dev nD) : wstg m ρ c = m ((c : Thread nD τ).loc main_arg1) := by
  unfold wstg
  have hz : (fun a => win0_1.index (0 : Fin 1) a * main_arg1.ty.shape.size a) = fun _ => 0 := funext fun a => by fin_cases a <;> decide
  exact Memref.read_access_unit_zero (Elt F) main_arg1 hz (fun a => by rw [congrFun hz a]; simp) _

/-- The result's array ends at the whole of what the body left. -/
theorem finalA_o (c : Dev nD) : finalA m ρ c (2 : Fin 3) = result m ρ c := by
  have hz : ∀ t : Fin cfg0.N, (fun a => win0_2.index t a * main_v1.ty.shape.size a) = fun _ => 0 := fun t => funext fun a => by rw [fin_N0 t]; fin_cases a <;> decide
  refine (dats m ρ 0 c).arrAt_eq_of_cover (2 : Fin 3) (result m ρ c) (fun t _ =>
    (Memref.read_access_unit_zero (Elt F) main_v1 (hz t) (fun a => by rw [congrFun (hz t) a]; simp) (result m ρ c)).symm) fun i => ⟨(0 : Fin 1), rfl, ?_⟩
  show i ∈ ((View.whole main_v1).slice (win0_2.rect (0 : Fin 1))).set
  rw [View.set_slice_whole, Rect.mem_set_unit]
  intro a
  have e : win0_2.index (0 : Fin 1) a * main_v1.ty.shape.size a = 0 := congrFun (hz (0 : Fin 1)) a
  refine ⟨?_, ?_⟩
  · show win0_2.index (0 : Fin 1) a * main_v1.ty.shape.size a ≤ (i a).val
    rw [e]; exact Nat.zero_le _
  · show (i a).val < win0_2.index (0 : Fin 1) a * main_v1.ty.shape.size a + main_v1.ty.shape.size a
    rw [e, Nat.zero_add]; exact (i a).isLt

end Arrays

end Cert.FourWay

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.FourWay

/-- The kernel at the machine's own values: it ends, its arguments are unchanged and every counter is at zero. Its text
    is the idealized kernel's, so the run of the one at the machine's values is the run of the other. -/
theorem frame_kernel : Cert.quiescent_Kernel := fun m ρ _ => by
  rw [same_defs]
  exact frame_any (F := Bits) m ρ

/-- The idealized kernel: it ends, its arguments are unchanged and every counter is at zero. -/
theorem frame_kernelIdeal : Cert.quiescent_KernelIdeal := fun m ρ _ => frame_any (F := Ideal) m ρ

/-- The reference: it ends, its arguments are unchanged, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value claim: with `x` cut by columns and `w` by rows over the four devices, each device's result over the extended
    reals is its block of 1024 rows of the reference's product `x · w`. -/
theorem value : Cert.algebraic_KernelIdeal_ReferenceIdeal := by
  intro m g m' g' _ hin
  have hX : ∀ c : Dev Cert.KernelIdeal.nD, xstg m g c = Layout.block ⟨2, ![4096, 1024]⟩ ⟨2, ![4096, 4096]⟩ 1 4 c
      (m' (((0 : Dev Cert.ReferenceIdeal.nD).tc : Thread Cert.ReferenceIdeal.nD Cert.ReferenceIdeal.τ).loc Cert.ReferenceIdeal.main_arg0)) :=
    fun c => (xstg_eq m g c).trans (hin c).1
  have hW : ∀ c : Dev Cert.KernelIdeal.nD, wstg m g c = Layout.block ⟨2, ![1024, 2048]⟩ ⟨2, ![4096, 2048]⟩ 0 4 c
      (m' (((0 : Dev Cert.ReferenceIdeal.nD).tc : Thread Cert.ReferenceIdeal.nD Cert.ReferenceIdeal.τ).loc Cert.ReferenceIdeal.main_arg1)) :=
    fun c => (wstg_eq m g c).trans (hin c).2
  exact ⟨_, (θ_run Cert.KernelIdeal.defs _ _).mono (fun _ h c => ⟨(h.1 c (2 : Fin 3)).trans ((finalA_o m g c).trans
        (outAt_block (xstg m g) (wstg m g) _ _ hX hW c)), (h.1 c (0 : Fin 3)).trans (finalA_x m g c), (h.1 c (1 : Fin 3)).trans (finalA_w m g c)⟩)
      (run_main (F := Ideal) m g),
    (θ_run Cert.ReferenceIdeal.defs _ _).mono (fun _ h => h 0) (Cert.ReferenceIdeal.Value.run (F := Ideal) m' g')⟩

/-- All the claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
